-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "third" .f32 0x3EAAAAAB#32 ((1 / 3 : ℝ) : EReal)
  ∧ IdealRules.named_const.Statement Cert.KernelIdeal.κ "e0n" .f32 0xC708FC6E#32 ((-9192978125 / 262144 : ℝ) : EReal)

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v82) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S6400000x3 : Shape := ⟨2, ![6400000, 3]⟩
abbrev S2x6400000 : Shape := ⟨2, ![2, 6400000]⟩
abbrev S1x6400000 : Shape := ⟨2, ![1, 6400000]⟩
abbrev S6400000 : Shape := ⟨1, ![6400000]⟩
abbrev S_ : Shape := ⟨0, ![]⟩

class Facts : Prop where
  slices_S2x6400000_S1x6400000_1_0 : S2x6400000.Slices ![1, 0] S1x6400000
  shapeCasts_S1x6400000_S6400000 : S1x6400000.ShapeCasts S6400000
  bcast_S_S6400000x3 : S_.BroadcastsInDim S6400000x3 (![] : Fin 0 → Fin S6400000x3.rank)
  reducesTo_S6400000x3_S_d0_1 : S6400000x3.ReducesTo [0, 1] S_
  h_S_ : 0 < S_.numel
  bcast_S_S6400000 : S_.BroadcastsInDim S6400000 (![] : Fin 0 → Fin S6400000.rank)
  reducesTo_S6400000_S_d0 : S6400000.ReducesTo [0] S_

variable [Facts]

def fn {F : FTy → Type} [FloatOps F] (main_arg0 : FVec F S6400000x3 .f32) (main_arg1 : IVec S2x6400000 32) : IVec S_ 1 :=
  let main_v0 : IVec S1x6400000 32 := (extractStridedSlice S1x6400000 ![1, 0] · slices_S2x6400000_S1x6400000_1_0) main_arg1
  let main_v1 : IVec S6400000 32 := shapeCast S6400000 main_v0 shapeCasts_S1x6400000_S6400000
  let main_v2 : FVec F S6400000x3 .f32 := Host.absf main_arg0
  let main_cst : FVec F S_ .f32 := constant S_ .f32 0x7F800000#32
  let main_v3 : FVec F S6400000x3 .f32 := broadcastInDim S6400000x3 ![] bcast_S_S6400000x3 main_cst
  let main_v4 : IVec S6400000x3 1 := cmpf .olt main_v2 main_v3
  let main_c : IVec S_ 1 := constantI S_ 1 1#1
  let main_v5 : IVec S_ 1 := (fun x v => Host.reduce IntOp.andi x v reducesTo_S6400000x3_S_d0_1 h_S_) main_v4 main_c
  let main_c_0 : IVec S_ 32 := constantI S_ 32 0#32
  let main_v6 : IVec S6400000 32 := broadcastInDim S6400000 ![] bcast_S_S6400000 main_c_0
  let main_v7 : IVec S6400000 1 := cmpi .sge main_v1 main_v6
  let main_c_1 : IVec S_ 1 := constantI S_ 1 1#1
  let main_v8 : IVec S_ 1 := (fun x v => Host.reduce IntOp.andi x v reducesTo_S6400000_S_d0 h_S_) main_v7 main_c_1
  let main_v9 : IVec S_ 1 := andi main_v5 main_v8
  let main_c_2 : IVec S_ 32 := constantI S_ 32 100000#32
  let main_v10 : IVec S6400000 32 := broadcastInDim S6400000 ![] bcast_S_S6400000 main_c_2
  let main_v11 : IVec S6400000 1 := cmpi .slt main_v1 main_v10
  let main_c_3 : IVec S_ 1 := constantI S_ 1 1#1
  let main_v12 : IVec S_ 1 := (fun x v => Host.reduce IntOp.andi x v reducesTo_S6400000_S_d0 h_S_) main_v11 main_c_3
  let main_v13 : IVec S_ 1 := andi main_v9 main_v12
  main_v13
-- ==== Kernel.lean ====
abbrev S6400000x3 : Shape := ⟨2, ![6400000, 3]⟩
abbrev S2x6400000 : Shape := ⟨2, ![2, 6400000]⟩
abbrev S19200000 : Shape := ⟨1, ![19200000]⟩
abbrev S1x6400000 : Shape := ⟨2, ![1, 6400000]⟩
abbrev S6400000 : Shape := ⟨1, ![6400000]⟩
abbrev S2x16x101376 : Shape := ⟨3, ![2, 16, 101376]⟩
abbrev S2x16x16 : Shape := ⟨3, ![2, 16, 16]⟩
abbrev S101376 : Shape := ⟨1, ![101376]⟩
abbrev S9600 : Shape := ⟨1, ![9600]⟩
abbrev S3200 : Shape := ⟨1, ![3200]⟩
abbrev S16 : Shape := ⟨1, ![16]⟩
abbrev S_ : Shape := ⟨0, ![]⟩
abbrev S1x1x101376 : Shape := ⟨3, ![1, 1, 101376]⟩
abbrev S1x1x16 : Shape := ⟨3, ![1, 1, 16]⟩
abbrev S32x101376 : Shape := ⟨2, ![32, 101376]⟩
abbrev S1x512 : Shape := ⟨2, ![1, 512]⟩
abbrev S3x101376 : Shape := ⟨2, ![3, 101376]⟩
abbrev S1x1 : Shape := ⟨2, ![1, 1]⟩
abbrev S32x512 : Shape := ⟨2, ![32, 512]⟩
abbrev S3x512 : Shape := ⟨2, ![3, 512]⟩
abbrev S6x512 : Shape := ⟨2, ![6, 512]⟩
abbrev S512 : Shape := ⟨1, ![512]⟩
abbrev S5x512 : Shape := ⟨2, ![5, 512]⟩
abbrev S1x1x512 : Shape := ⟨3, ![1, 1, 512]⟩
abbrev S1 : Shape := ⟨1, ![1]⟩
abbrev S1x1x1 : Shape := ⟨3, ![1, 1, 1]⟩
abbrev S304128 : Shape := ⟨1, ![304128]⟩
abbrev S300000 : Shape := ⟨1, ![300000]⟩
abbrev S100000x3 : Shape := ⟨2, ![100000, 3]⟩

abbrev nBuf : Table → Nat
  | .hbm => 19
  | .local .tc .vmem => 8
  | .local .scVector .vmem => 4
  | _ => 0

abbrev bufTy : (tb : Table) → Fin (nBuf tb) → BufTy
  | .hbm, ⟨0, _⟩ => ⟨S6400000x3, .f32⟩
  | .hbm, ⟨1, _⟩ => ⟨S2x6400000, .i32⟩
  | .hbm, ⟨2, _⟩ => ⟨S19200000, .f32⟩
  | .hbm, ⟨3, _⟩ => ⟨S1x6400000, .i32⟩
  | .hbm, ⟨4, _⟩ => ⟨S6400000, .i32⟩
  | .hbm, ⟨5, _⟩ => ⟨S2x16x101376, .f32⟩
  | .hbm, ⟨6, _⟩ => ⟨S2x16x16, .f32⟩
  | .hbm, ⟨7, _⟩ => ⟨S32x101376, .f32⟩
  | .hbm, ⟨8, _⟩ => ⟨S1x512, .f32⟩
  | .hbm, ⟨9, _⟩ => ⟨S3x101376, .f32⟩
  | .hbm, ⟨10, _⟩ => ⟨S3x101376, .f32⟩
  | .hbm, ⟨11, _⟩ => ⟨S1x1, .f32⟩
  | .hbm, ⟨12, _⟩ => ⟨S304128, .f32⟩
  | .hbm, ⟨13, _⟩ => ⟨S300000, .f32⟩
  | .hbm, ⟨14, _⟩ => ⟨S100000x3, .f32⟩
  | .hbm, ⟨15, _⟩ => ⟨S304128, .f32⟩
  | .hbm, ⟨16, _⟩ => ⟨S300000, .f32⟩
  | .hbm, ⟨17, _⟩ => ⟨S100000x3, .f32⟩
  | .hbm, ⟨18, _⟩ => ⟨S_, .f32⟩
  | .local .tc .vmem, ⟨0, _⟩ => ⟨S32x512, .f32⟩
  | .local .tc .vmem, ⟨1, _⟩ => ⟨S32x512, .f32⟩
  | .local .tc .vmem, ⟨2, _⟩ => ⟨S1x512, .f32⟩
  | .local .tc .vmem, ⟨3, _⟩ => ⟨S3x512, .f32⟩
  | .local .tc .vmem, ⟨4, _⟩ => ⟨S3x512, .f32⟩
  | .local .tc .vmem, ⟨5, _⟩ => ⟨S3x512, .f32⟩
  | .local .tc .vmem, ⟨6, _⟩ => ⟨S3x512, .f32⟩
  | .local .tc .vmem, ⟨7, _⟩ => ⟨S1x1, .f32⟩
  | .local .scVector .vmem, ⟨0, _⟩ => ⟨S101376, .f32⟩
  | .local .scVector .vmem, ⟨1, _⟩ => ⟨S9600, .f32⟩
  | .local .scVector .vmem, ⟨2, _⟩ => ⟨S3200, .i32⟩
  | .local .scVector .vmem, ⟨3, _⟩ => ⟨S16, .f32⟩
  | _, _ => ⟨S6400000x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v0_scv : Ref sig .scVector := ⟨.hbm, 2, rfl⟩
abbrev main_v2_scv : Ref sig .scVector := ⟨.hbm, 4, rfl⟩
abbrev main_v3_0_scv : Ref sig .scVector := ⟨.hbm, 5, rfl⟩
abbrev main_v3_1_scv : Ref sig .scVector := ⟨.hbm, 6, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc1_stg3_0 : Ref sig .tc := ⟨.vmem, 5, rfl⟩
abbrev cc1_stg3_1 : Ref sig .tc := ⟨.vmem, 6, rfl⟩
abbrev cc1_stg4_0 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_8 : BitVec 32 := 0#32
  let c6336_i32 : BitVec 32 := 6336#32
  let v14 : BitVec 32 := Scalar.addi c0_i32_8 c6336_i32
  let c1_i32_9 : BitVec 32 := 1#32
  ⟨c0_i32_8, v14, c1_i32_9⟩
def k0_off1 (k0_t1 : Fin k0_t1_loop.trips) : Fin 1 → Nat :=
  let c0_i32_8 : BitVec 32 := 0#32
  let c1_i32_9 : BitVec 32 := 1#32
  let arg10 : BitVec 32 := Scf.iv c0_i32_8 c1_i32_9 k0_t1
  let c16_i32 : BitVec 32 := 16#32
  let v46 : BitVec 32 := Scalar.muli arg10 c16_i32
  let v47 : Index := Scalar.indexCast v46
  ![v47.toNat]
@[reducible] def k0_t2_loop (i : grid0.Coords) : Scf.Loop 32 :=
  let c0_i32_19 : BitVec 32 := 0#32
  let c1000_i32 : BitVec 32 := 1000#32
  let arg1 : BitVec 32 := BitVec.ofNat 32 (i 1).val
  let c6_i32_0 : BitVec 32 := 6#32
  let v4 : BitVec 1 := Scalar.cmpi .slt arg1 c6_i32_0
  let c0_i32_4 : BitVec 32 := 0#32
  let c11_i32_1 : BitVec 32 := 11#32
  let v5 : BitVec 1 := Scalar.cmpi .slt arg1 c11_i32_1
  let c6_i32_2 : BitVec 32 := 6#32
  let c11_i32_3 : BitVec 32 := 11#32
  let v6 : BitVec 32 := Scalar.select v5 c6_i32_2 c11_i32_3
  let v7 : BitVec 32 := Scalar.select v4 c0_i32_4 v6
  let v8 : BitVec 32 := Scalar.subi arg1 v7
  let v15 : BitVec 32 := Scalar.subi c1000_i32 v8
  let c6_i32_5 : BitVec 32 := 6#32
  let v9 : BitVec 1 := Scalar.cmpi .slt arg1 c6_i32_5
  let c6_i32_6 : BitVec 32 := 6#32
  let c5_i32 : BitVec 32 := 5#32
  let v10 : BitVec 32 := Scalar.select v9 c6_i32_6 c5_i32
  let v16 : BitVec 32 := Scalar.addi v15 v10
  let c1_i32_11 : BitVec 32 := 1#32
  let v17 : BitVec 32 := Scalar.subi v16 c1_i32_11
  let c0_i32_12 : BitVec 32 := 0#32
  let v19 : BitVec 1 := Scalar.cmpi .sgt v17 c0_i32_12
  let v20 : BitVec 32 := Scalar.extui v19
  let c0_i32_13 : BitVec 32 := 0#32
  let v21 : BitVec 1 := Scalar.cmpi .slt v17 c0_i32_13
  let v22 : BitVec 32 := Scalar.extui v21
  let v23 : BitVec 32 := Scalar.subi v20 v22
  let c0_i32_14 : BitVec 32 := 0#32
  let v24 : BitVec 1 := Scalar.cmpi .sgt v10 c0_i32_14
  let v25 : BitVec 32 := Scalar.extui v24
  let c0_i32_15 : BitVec 32 := 0#32
  let v26 : BitVec 1 := Scalar.cmpi .slt v10 c0_i32_15
  let v27 : BitVec 32 := Scalar.extui v26
  let v28 : BitVec 32 := Scalar.subi v25 v27
  let v29 : BitVec 1 := Scalar.cmpi .ne v23 v28
  let v30 : BitVec 32 := Scalar.remsi v17 v10
  let c0_i32_16 : BitVec 32 := 0#32
  let v31 : BitVec 1 := Scalar.cmpi .ne v30 c0_i32_16
  let v32 : BitVec 1 := Scalar.andi v29 v31
  let v18 : BitVec 32 := Scalar.divsi v17 v10
  let c1_i32_17 : BitVec 32 := 1#32
  let v33 : BitVec 32 := Scalar.subi v18 c1_i32_17
  let v34 : BitVec 32 := Scalar.select v32 v33 v18
  let v36 : BitVec 32 := Scalar.subi v34 c0_i32_19
  let c1_i32_20 : BitVec 32 := 1#32
  let v38 : BitVec 32 := Scalar.divsi v36 c1_i32_20
  let v39 : BitVec 32 := Scalar.muli v38 c1_i32_20
  let v40 : BitVec 32 := Scalar.addi c0_i32_19 v39
  let c1_i32_21 : BitVec 32 := 1#32
  ⟨c0_i32_19, v40, c1_i32_21⟩
def k0_off2 (i : grid0.Coords) (k0_t2 : Fin (k0_t2_loop i).trips) : Fin 1 → Nat :=
  let arg0 : BitVec 32 := BitVec.ofNat 32 (i 0).val
  let c3200000_i32 : BitVec 32 := 3200000#32
  let v48 : BitVec 32 := Scalar.muli arg0 c3200000_i32
  let arg1 : BitVec 32 := BitVec.ofNat 32 (i 1).val
  let c6_i32_0 : BitVec 32 := 6#32
  let v4 : BitVec 1 := Scalar.cmpi .slt arg1 c6_i32_0
  let c0_i32_4 : BitVec 32 := 0#32
  let c11_i32_1 : BitVec 32 := 11#32
  let v5 : BitVec 1 := Scalar.cmpi .slt arg1 c11_i32_1
  let c6_i32_2 : BitVec 32 := 6#32
  let c11_i32_3 : BitVec 32 := 11#32
  let v6 : BitVec 32 := Scalar.select v5 c6_i32_2 c11_i32_3
  let v7 : BitVec 32 := Scalar.select v4 c0_i32_4 v6
  let v8 : BitVec 32 := Scalar.subi arg1 v7
  let c0_i32_19 : BitVec 32 := 0#32
  let c1_i32_21 : BitVec 32 := 1#32
  let arg10 : BitVec 32 := Scf.iv c0_i32_19 c1_i32_21 k0_t2
  let c6_i32_5 : BitVec 32 := 6#32
  let v9 : BitVec 1 := Scalar.cmpi .slt arg1 c6_i32_5
  let c6_i32_6 : BitVec 32 := 6#32
  let c5_i32 : BitVec 32 := 5#32
  let v10 : BitVec 32 := Scalar.select v9 c6_i32_6 c5_i32
  let v46 : BitVec 32 := Scalar.muli arg10 v10
  let v47 : BitVec 32 := Scalar.addi v8 v46
  let c3200_i32 : BitVec 32 := 3200#32
  let v49 : BitVec 32 := Scalar.muli v47 c3200_i32
  let v50 : BitVec 32 := Scalar.addi v48 v49
  let c3_i32 : BitVec 32 := 3#32
  let v51 : BitVec 32 := Scalar.muli v50 c3_i32
  ![v51.toNat]
def k0_off3 (i : grid0.Coords) (k0_t2 : Fin (k0_t2_loop i).trips) : Fin 1 → Nat :=
  let arg0 : BitVec 32 := BitVec.ofNat 32 (i 0).val
  let c3200000_i32 : BitVec 32 := 3200000#32
  let v48 : BitVec 32 := Scalar.muli arg0 c3200000_i32
  let arg1 : BitVec 32 := BitVec.ofNat 32 (i 1).val
  let c6_i32_0 : BitVec 32 := 6#32
  let v4 : BitVec 1 := Scalar.cmpi .slt arg1 c6_i32_0
  let c0_i32_4 : BitVec 32 := 0#32
  let c11_i32_1 : BitVec 32 := 11#32
  let v5 : BitVec 1 := Scalar.cmpi .slt arg1 c11_i32_1
  let c6_i32_2 : BitVec 32 := 6#32
  let c11_i32_3 : BitVec 32 := 11#32
  let v6 : BitVec 32 := Scalar.select v5 c6_i32_2 c11_i32_3
  let v7 : BitVec 32 := Scalar.select v4 c0_i32_4 v6
  let v8 : BitVec 32 := Scalar.subi arg1 v7
  let c0_i32_19 : BitVec 32 := 0#32
  let c1_i32_21 : BitVec 32 := 1#32
  let arg10 : BitVec 32 := Scf.iv c0_i32_19 c1_i32_21 k0_t2
  let c6_i32_5 : BitVec 32 := 6#32
  let v9 : BitVec 1 := Scalar.cmpi .slt arg1 c6_i32_5
  let c6_i32_6 : BitVec 32 := 6#32
  let c5_i32 : BitVec 32 := 5#32
  let v10 : BitVec 32 := Scalar.select v9 c6_i32_6 c5_i32
  let v46 : BitVec 32 := Scalar.muli arg10 v10
  let v47 : BitVec 32 := Scalar.addi v8 v46
  let c3200_i32 : BitVec 32 := 3200#32
  let v49 : BitVec 32 := Scalar.muli v47 c3200_i32
  let v50 : BitVec 32 := Scalar.addi v48 v49
  ![v50.toNat]
@[reducible] def k0_t3_loop : Scf.Loop 32 :=
  let c0_i32_24 : BitVec 32 := 0#32
  let c200_i32 : BitVec 32 := 200#32
  let v52 : BitVec 32 := Scalar.addi c0_i32_24 c200_i32
  let c1_i32_25 : BitVec 32 := 1#32
  ⟨c0_i32_24, v52, c1_i32_25⟩

def k0_chk1 (v58 : IVec S16 32) : Prop :=
  (∀ a x, ((![v58] : Fin 1 → IVec S16 32) a x).toNat < S9600.size a)
theorem k0_idx1_inb : ∀ (v58 : IVec S16 32) (k0_hw1 : k0_chk1 v58), ∀ a x, ((![v58] : Fin 1 → IVec S16 32) a x).toNat < S9600.size a := fun v58 k0_hw1 => k0_hw1

def k0_chk2 (v61 : IVec S16 32) : Prop :=
  (∀ a x, ((![v61] : Fin 1 → IVec S16 32) a x).toNat < S9600.size a)
theorem k0_idx2_inb : ∀ (v61 : IVec S16 32) (k0_hw2 : k0_chk2 v61), ∀ a x, ((![v61] : Fin 1 → IVec S16 32) a x).toNat < S9600.size a := fun v61 k0_hw2 => k0_hw2

def k0_chk3 (v64 : IVec S16 32) : Prop :=
  (∀ a x, ((![v64] : Fin 1 → IVec S16 32) a x).toNat < S9600.size a)
theorem k0_idx3_inb : ∀ (v64 : IVec S16 32) (k0_hw3 : k0_chk3 v64), ∀ a x, ((![v64] : Fin 1 → IVec S16 32) a x).toNat < S9600.size a := fun v64 k0_hw3 => k0_hw3
def k0_off4 (k0_t3 : Fin k0_t3_loop.trips) : Fin 1 → Nat :=
  let c0_i32_24 : BitVec 32 := 0#32
  let c1_i32_25 : BitVec 32 := 1#32
  let arg12 : BitVec 32 := Scf.iv c0_i32_24 c1_i32_25 k0_t3
  let c16_i32 : BitVec 32 := 16#32
  let v66 : BitVec 32 := Scalar.muli arg12 c16_i32
  let v67 : Index := Scalar.indexCast v66
  ![v67.toNat]

def k0_chk4 (v93 : IVec S16 32) : Prop :=
  (∀ a x, ((![v93] : Fin 1 → IVec S16 32) a x).toNat < S101376.size a)
theorem k0_idx4_inb : ∀ (v93 : IVec S16 32) (k0_hw4 : k0_chk4 v93), ∀ a x, ((![v93] : Fin 1 → IVec S16 32) a x).toNat < S101376.size a := fun v93 k0_hw4 => k0_hw4

def k0_chk5 (v96 : IVec S16 32) : Prop :=
  (∀ a x, ((![v96] : Fin 1 → IVec S16 32) a x).toNat < S101376.size a)
theorem k0_idx5_inb : ∀ (v96 : IVec S16 32) (k0_hw5 : k0_chk5 v96), ∀ a x, ((![v96] : Fin 1 → IVec S16 32) a x).toNat < S101376.size a := fun v96 k0_hw5 => k0_hw5

def k0_chk6 (v99 : IVec S16 32) : Prop :=
  (∀ a x, ((![v99] : Fin 1 → IVec S16 32) a x).toNat < S101376.size a)
theorem k0_idx6_inb : ∀ (v99 : IVec S16 32) (k0_hw6 : k0_chk6 v99), ∀ a x, ((![v99] : Fin 1 → IVec S16 32) a x).toNat < S101376.size a := fun v99 k0_hw6 => k0_hw6
@[reducible] def k0_t4_loop (i : grid0.Coords) : Scf.Loop 32 :=
  let c0_i32_19 : BitVec 32 := 0#32
  let c1000_i32 : BitVec 32 := 1000#32
  let arg1 : BitVec 32 := BitVec.ofNat 32 (i 1).val
  let c6_i32_0 : BitVec 32 := 6#32
  let v4 : BitVec 1 := Scalar.cmpi .slt arg1 c6_i32_0
  let c0_i32_4 : BitVec 32 := 0#32
  let c11_i32_1 : BitVec 32 := 11#32
  let v5 : BitVec 1 := Scalar.cmpi .slt arg1 c11_i32_1
  let c6_i32_2 : BitVec 32 := 6#32
  let c11_i32_3 : BitVec 32 := 11#32
  let v6 : BitVec 32 := Scalar.select v5 c6_i32_2 c11_i32_3
  let v7 : BitVec 32 := Scalar.select v4 c0_i32_4 v6
  let v8 : BitVec 32 := Scalar.subi arg1 v7
  let v15 : BitVec 32 := Scalar.subi c1000_i32 v8
  let c6_i32_5 : BitVec 32 := 6#32
  let v9 : BitVec 1 := Scalar.cmpi .slt arg1 c6_i32_5
  let c6_i32_6 : BitVec 32 := 6#32
  let c5_i32 : BitVec 32 := 5#32
  let v10 : BitVec 32 := Scalar.select v9 c6_i32_6 c5_i32
  let v16 : BitVec 32 := Scalar.addi v15 v10
  let c1_i32_11 : BitVec 32 := 1#32
  let v17 : BitVec 32 := Scalar.subi v16 c1_i32_11
  let c0_i32_12 : BitVec 32 := 0#32
  let v19 : BitVec 1 := Scalar.cmpi .sgt v17 c0_i32_12
  let v20 : BitVec 32 := Scalar.extui v19
  let c0_i32_13 : BitVec 32 := 0#32
  let v21 : BitVec 1 := Scalar.cmpi .slt v17 c0_i32_13
  let v22 : BitVec 32 := Scalar.extui v21
  let v23 : BitVec 32 := Scalar.subi v20 v22
  let c0_i32_14 : BitVec 32 := 0#32
  let v24 : BitVec 1 := Scalar.cmpi .sgt v10 c0_i32_14
  let v25 : BitVec 32 := Scalar.extui v24
  let c0_i32_15 : BitVec 32 := 0#32
  let v26 : BitVec 1 := Scalar.cmpi .slt v10 c0_i32_15
  let v27 : BitVec 32 := Scalar.extui v26
  let v28 : BitVec 32 := Scalar.subi v25 v27
  let v29 : BitVec 1 := Scalar.cmpi .ne v23 v28
  let v30 : BitVec 32 := Scalar.remsi v17 v10
  let c0_i32_16 : BitVec 32 := 0#32
  let v31 : BitVec 1 := Scalar.cmpi .ne v30 c0_i32_16
  let v32 : BitVec 1 := Scalar.andi v29 v31
  let v18 : BitVec 32 := Scalar.divsi v17 v10
  let c1_i32_17 : BitVec 32 := 1#32
  let v33 : BitVec 32 := Scalar.subi v18 c1_i32_17
  let v34 : BitVec 32 := Scalar.select v32 v33 v18
  let v36 : BitVec 32 := Scalar.subi v34 c0_i32_19
  let c1_i32_20 : BitVec 32 := 1#32
  let v38 : BitVec 32 := Scalar.divsi v36 c1_i32_20
  let v39 : BitVec 32 := Scalar.muli v38 c1_i32_20
  let v40 : BitVec 32 := Scalar.addi c0_i32_19 v39
  let v37 : BitVec 32 := Scalar.addi c0_i32_19 v36
  let c1_i32_22 : BitVec 32 := 1#32
  ⟨v40, v37, c1_i32_22⟩
def k0_off5 (i : grid0.Coords) (k0_t4 : Fin (k0_t4_loop i).trips) : Fin 1 → Nat :=
  let arg0 : BitVec 32 := BitVec.ofNat 32 (i 0).val
  let c3200000_i32 : BitVec 32 := 3200000#32
  let v48 : BitVec 32 := Scalar.muli arg0 c3200000_i32
  let arg1 : BitVec 32 := BitVec.ofNat 32 (i 1).val
  let c6_i32_0 : BitVec 32 := 6#32
  let v4 : BitVec 1 := Scalar.cmpi .slt arg1 c6_i32_0
  let c0_i32_4 : BitVec 32 := 0#32
  let c11_i32_1 : BitVec 32 := 11#32
  let v5 : BitVec 1 := Scalar.cmpi .slt arg1 c11_i32_1
  let c6_i32_2 : BitVec 32 := 6#32
  let c11_i32_3 : BitVec 32 := 11#32
  let v6 : BitVec 32 := Scalar.select v5 c6_i32_2 c11_i32_3
  let v7 : BitVec 32 := Scalar.select v4 c0_i32_4 v6
  let v8 : BitVec 32 := Scalar.subi arg1 v7
  let c0_i32_19 : BitVec 32 := 0#32
  let c1000_i32 : BitVec 32 := 1000#32
  let v15 : BitVec 32 := Scalar.subi c1000_i32 v8
  let c6_i32_5 : BitVec 32 := 6#32
  let v9 : BitVec 1 := Scalar.cmpi .slt arg1 c6_i32_5
  let c6_i32_6 : BitVec 32 := 6#32
  let c5_i32 : BitVec 32 := 5#32
  let v10 : BitVec 32 := Scalar.select v9 c6_i32_6 c5_i32
  let v16 : BitVec 32 := Scalar.addi v15 v10
  let c1_i32_11 : BitVec 32 := 1#32
  let v17 : BitVec 32 := Scalar.subi v16 c1_i32_11
  let c0_i32_12 : BitVec 32 := 0#32
  let v19 : BitVec 1 := Scalar.cmpi .sgt v17 c0_i32_12
  let v20 : BitVec 32 := Scalar.extui v19
  let c0_i32_13 : BitVec 32 := 0#32
  let v21 : BitVec 1 := Scalar.cmpi .slt v17 c0_i32_13
  let v22 : BitVec 32 := Scalar.extui v21
  let v23 : BitVec 32 := Scalar.subi v20 v22
  let c0_i32_14 : BitVec 32 := 0#32
  let v24 : BitVec 1 := Scalar.cmpi .sgt v10 c0_i32_14
  let v25 : BitVec 32 := Scalar.extui v24
  let c0_i32_15 : BitVec 32 := 0#32
  let v26 : BitVec 1 := Scalar.cmpi .slt v10 c0_i32_15
  let v27 : BitVec 32 := Scalar.extui v26
  let v28 : BitVec 32 := Scalar.subi v25 v27
  let v29 : BitVec 1 := Scalar.cmpi .ne v23 v28
  let v30 : BitVec 32 := Scalar.remsi v17 v10
  let c0_i32_16 : BitVec 32 := 0#32
  let v31 : BitVec 1 := Scalar.cmpi .ne v30 c0_i32_16
  let v32 : BitVec 1 := Scalar.andi v29 v31
  let v18 : BitVec 32 := Scalar.divsi v17 v10
  let c1_i32_17 : BitVec 32 := 1#32
  let v33 : BitVec 32 := Scalar.subi v18 c1_i32_17
  let v34 : BitVec 32 := Scalar.select v32 v33 v18
  let v36 : BitVec 32 := Scalar.subi v34 c0_i32_19
  let c1_i32_20 : BitVec 32 := 1#32
  let v38 : BitVec 32 := Scalar.divsi v36 c1_i32_20
  let v39 : BitVec 32 := Scalar.muli v38 c1_i32_20
  let v40 : BitVec 32 := Scalar.addi c0_i32_19 v39
  let c1_i32_22 : BitVec 32 := 1#32
  let arg10 : BitVec 32 := Scf.iv v40 c1_i32_22 k0_t4
  let v46 : BitVec 32 := Scalar.muli arg10 v10
  let v47 : BitVec 32 := Scalar.addi v8 v46
  let c3200_i32 : BitVec 32 := 3200#32
  let v49 : BitVec 32 := Scalar.muli v47 c3200_i32
  let v50 : BitVec 32 := Scalar.addi v48 v49
  let c3_i32 : BitVec 32 := 3#32
  let v51 : BitVec 32 := Scalar.muli v50 c3_i32
  ![v51.toNat]
def k0_off6 (i : grid0.Coords) (k0_t4 : Fin (k0_t4_loop i).trips) : Fin 1 → Nat :=
  let arg0 : BitVec 32 := BitVec.ofNat 32 (i 0).val
  let c3200000_i32 : BitVec 32 := 3200000#32
  let v48 : BitVec 32 := Scalar.muli arg0 c3200000_i32
  let arg1 : BitVec 32 := BitVec.ofNat 32 (i 1).val
  let c6_i32_0 : BitVec 32 := 6#32
  let v4 : BitVec 1 := Scalar.cmpi .slt arg1 c6_i32_0
  let c0_i32_4 : BitVec 32 := 0#32
  let c11_i32_1 : BitVec 32 := 11#32
  let v5 : BitVec 1 := Scalar.cmpi .slt arg1 c11_i32_1
  let c6_i32_2 : BitVec 32 := 6#32
  let c11_i32_3 : BitVec 32 := 11#32
  let v6 : BitVec 32 := Scalar.select v5 c6_i32_2 c11_i32_3
  let v7 : BitVec 32 := Scalar.select v4 c0_i32_4 v6
  let v8 : BitVec 32 := Scalar.subi arg1 v7
  let c0_i32_19 : BitVec 32 := 0#32
  let c1000_i32 : BitVec 32 := 1000#32
  let v15 : BitVec 32 := Scalar.subi c1000_i32 v8
  let c6_i32_5 : BitVec 32 := 6#32
  let v9 : BitVec 1 := Scalar.cmpi .slt arg1 c6_i32_5
  let c6_i32_6 : BitVec 32 := 6#32
  let c5_i32 : BitVec 32 := 5#32
  let v10 : BitVec 32 := Scalar.select v9 c6_i32_6 c5_i32
  let v16 : BitVec 32 := Scalar.addi v15 v10
  let c1_i32_11 : BitVec 32 := 1#32
  let v17 : BitVec 32 := Scalar.subi v16 c1_i32_11
  let c0_i32_12 : BitVec 32 := 0#32
  let v19 : BitVec 1 := Scalar.cmpi .sgt v17 c0_i32_12
  let v20 : BitVec 32 := Scalar.extui v19
  let c0_i32_13 : BitVec 32 := 0#32
  let v21 : BitVec 1 := Scalar.cmpi .slt v17 c0_i32_13
  let v22 : BitVec 32 := Scalar.extui v21
  let v23 : BitVec 32 := Scalar.subi v20 v22
  let c0_i32_14 : BitVec 32 := 0#32
  let v24 : BitVec 1 := Scalar.cmpi .sgt v10 c0_i32_14
  let v25 : BitVec 32 := Scalar.extui v24
  let c0_i32_15 : BitVec 32 := 0#32
  let v26 : BitVec 1 := Scalar.cmpi .slt v10 c0_i32_15
  let v27 : BitVec 32 := Scalar.extui v26
  let v28 : BitVec 32 := Scalar.subi v25 v27
  let v29 : BitVec 1 := Scalar.cmpi .ne v23 v28
  let v30 : BitVec 32 := Scalar.remsi v17 v10
  let c0_i32_16 : BitVec 32 := 0#32
  let v31 : BitVec 1 := Scalar.cmpi .ne v30 c0_i32_16
  let v32 : BitVec 1 := Scalar.andi v29 v31
  let v18 : BitVec 32 := Scalar.divsi v17 v10
  let c1_i32_17 : BitVec 32 := 1#32
  let v33 : BitVec 32 := Scalar.subi v18 c1_i32_17
  let v34 : BitVec 32 := Scalar.select v32 v33 v18
  let v36 : BitVec 32 := Scalar.subi v34 c0_i32_19
  let c1_i32_20 : BitVec 32 := 1#32
  let v38 : BitVec 32 := Scalar.divsi v36 c1_i32_20
  let v39 : BitVec 32 := Scalar.muli v38 c1_i32_20
  let v40 : BitVec 32 := Scalar.addi c0_i32_19 v39
  let c1_i32_22 : BitVec 32 := 1#32
  let arg10 : BitVec 32 := Scf.iv v40 c1_i32_22 k0_t4
  let v46 : BitVec 32 := Scalar.muli arg10 v10
  let v47 : BitVec 32 := Scalar.addi v8 v46
  let c3200_i32 : BitVec 32 := 3200#32
  let v49 : BitVec 32 := Scalar.muli v47 c3200_i32
  let v50 : BitVec 32 := Scalar.addi v48 v49
  ![v50.toNat]
@[reducible] def k0_t5_loop : Scf.Loop 32 :=
  let c0_i32_24 : BitVec 32 := 0#32
  let c200_i32 : BitVec 32 := 200#32
  let v52 : BitVec 32 := Scalar.addi c0_i32_24 c200_i32
  let c1_i32_25 : BitVec 32 := 1#32
  ⟨c0_i32_24, v52, c1_i32_25⟩

def k0_chk7 (i : grid0.Coords) (k0_t4 : Fin (k0_t4_loop i).trips) (v58 : IVec S16 32) : Prop :=
  (∀ a x, ((![v58] : Fin 1 → IVec S16 32) a x).toNat < S9600.size a)
theorem k0_idx7_inb : ∀ (i : grid0.Coords) (k0_t4 : Fin (k0_t4_loop i).trips) (v58 : IVec S16 32) (k0_hw7 : k0_chk7 i k0_t4 v58), ∀ a x, ((![v58] : Fin 1 → IVec S16 32) a x).toNat < S9600.size a := fun i k0_t4 v58 k0_hw7 => k0_hw7

def k0_chk8 (i : grid0.Coords) (k0_t4 : Fin (k0_t4_loop i).trips) (v61 : IVec S16 32) : Prop :=
  (∀ a x, ((![v61] : Fin 1 → IVec S16 32) a x).toNat < S9600.size a)
theorem k0_idx8_inb : ∀ (i : grid0.Coords) (k0_t4 : Fin (k0_t4_loop i).trips) (v61 : IVec S16 32) (k0_hw8 : k0_chk8 i k0_t4 v61), ∀ a x, ((![v61] : Fin 1 → IVec S16 32) a x).toNat < S9600.size a := fun i k0_t4 v61 k0_hw8 => k0_hw8

def k0_chk9 (i : grid0.Coords) (k0_t4 : Fin (k0_t4_loop i).trips) (v64 : IVec S16 32) : Prop :=
  (∀ a x, ((![v64] : Fin 1 → IVec S16 32) a x).toNat < S9600.size a)
theorem k0_idx9_inb : ∀ (i : grid0.Coords) (k0_t4 : Fin (k0_t4_loop i).trips) (v64 : IVec S16 32) (k0_hw9 : k0_chk9 i k0_t4 v64), ∀ a x, ((![v64] : Fin 1 → IVec S16 32) a x).toNat < S9600.size a := fun i k0_t4 v64 k0_hw9 => k0_hw9
def k0_off7 (k0_t5 : Fin k0_t5_loop.trips) : Fin 1 → Nat :=
  let c0_i32_24 : BitVec 32 := 0#32
  let c1_i32_25 : BitVec 32 := 1#32
  let arg12 : BitVec 32 := Scf.iv c0_i32_24 c1_i32_25 k0_t5
  let c16_i32 : BitVec 32 := 16#32
  let v66 : BitVec 32 := Scalar.muli arg12 c16_i32
  let v67 : Index := Scalar.indexCast v66
  ![v67.toNat]

def k0_chk10 (i : grid0.Coords) (k0_t4 : Fin (k0_t4_loop i).trips) (v93 : IVec S16 32) : Prop :=
  (∀ a x, ((![v93] : Fin 1 → IVec S16 32) a x).toNat < S101376.size a)
theorem k0_idx10_inb : ∀ (i : grid0.Coords) (k0_t4 : Fin (k0_t4_loop i).trips) (v93 : IVec S16 32) (k0_hw10 : k0_chk10 i k0_t4 v93), ∀ a x, ((![v93] : Fin 1 → IVec S16 32) a x).toNat < S101376.size a := fun i k0_t4 v93 k0_hw10 => k0_hw10

def k0_chk11 (i : grid0.Coords) (k0_t4 : Fin (k0_t4_loop i).trips) (v96 : IVec S16 32) : Prop :=
  (∀ a x, ((![v96] : Fin 1 → IVec S16 32) a x).toNat < S101376.size a)
theorem k0_idx11_inb : ∀ (i : grid0.Coords) (k0_t4 : Fin (k0_t4_loop i).trips) (v96 : IVec S16 32) (k0_hw11 : k0_chk11 i k0_t4 v96), ∀ a x, ((![v96] : Fin 1 → IVec S16 32) a x).toNat < S101376.size a := fun i k0_t4 v96 k0_hw11 => k0_hw11

def k0_chk12 (i : grid0.Coords) (k0_t4 : Fin (k0_t4_loop i).trips) (v99 : IVec S16 32) : Prop :=
  (∀ a x, ((![v99] : Fin 1 → IVec S16 32) a x).toNat < S101376.size a)
theorem k0_idx12_inb : ∀ (i : grid0.Coords) (k0_t4 : Fin (k0_t4_loop i).trips) (v99 : IVec S16 32) (k0_hw12 : k0_chk12 i k0_t4 v99), ∀ a x, ((![v99] : Fin 1 → IVec S16 32) a x).toNat < S101376.size a := fun i k0_t4 v99 k0_hw12 => k0_hw12
def k0_off8 (i : grid0.Coords) : Fin 3 → Nat :=
  let arg0 : BitVec 32 := BitVec.ofNat 32 (i 0).val
  let arg1 : BitVec 32 := BitVec.ofNat 32 (i 1).val
  let c0_i32_24_r4 : BitVec 32 := 0#32
  ![arg0.toNat, arg1.toNat, 0]
def k0_off9 (i : grid0.Coords) : Fin 3 → Nat :=
  let arg0 : BitVec 32 := BitVec.ofNat 32 (i 0).val
  let arg1 : BitVec 32 := BitVec.ofNat 32 (i 1).val
  let c0_i32_24_r5 : BitVec 32 := 0#32
  ![arg0.toNat, arg1.toNat, 0]
abbrev grid1 : Pipeline.Grid := ⟨1, ![198], ![false]⟩

def k1_cond1 (i : grid1.Coords) : BitVec 1 :=
  let arg0 : BitVec 32 := BitVec.ofNat 32 (i 0).val
  let c0_i32 : BitVec 32 := 0#32
  let v27 : BitVec 1 := Scalar.cmpi .eq arg0 c0_i32
  let v28 : BitVec 32 := Scalar.extui v27
  let c0_i32_12 : BitVec 32 := 0#32
  let v29 : BitVec 1 := Scalar.cmpi .ne v28 c0_i32_12
  v29

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S32x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S3x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "e0n" => some ((-9192978125 / 262144 : ℝ) : EReal)
  | "third" => some ((1 / 3 : ℝ) : EReal)
  | _ => none
-- ==== ReferenceIdeal.lean ====
abbrev S6400000x3 : Shape := ⟨2, ![6400000, 3]⟩
abbrev S2x6400000 : Shape := ⟨2, ![2, 6400000]⟩
abbrev S1x6400000 : Shape := ⟨2, ![1, 6400000]⟩
abbrev S6400000 : Shape := ⟨1, ![6400000]⟩
abbrev S_ : Shape := ⟨0, ![]⟩
abbrev S100000 : Shape := ⟨1, ![100000]⟩
abbrev S6400000x1 : Shape := ⟨2, ![6400000, 1]⟩
abbrev S1 : Shape := ⟨1, ![1]⟩
abbrev S1x1 : Shape := ⟨2, ![1, 1]⟩
abbrev S100000x3 : Shape := ⟨2, ![100000, 3]⟩

abbrev nBuf : Space → Nat
  | .hbm => 112
  | .vmem => 0
  | .smem => 0
  | _ => 0

abbrev bufTy : (tb : Table) → Fin (tcTables nBuf tb) → BufTy
  | .hbm, ⟨0, _⟩ => ⟨S6400000x3, .f32⟩
  | .hbm, ⟨1, _⟩ => ⟨S2x6400000, .i32⟩
  | .hbm, ⟨2, _⟩ => ⟨S1x6400000, .i32⟩
  | .hbm, ⟨3, _⟩ => ⟨S6400000, .i32⟩
  | .hbm, ⟨4, _⟩ => ⟨S6400000x3, .f32⟩
  | .hbm, ⟨5, _⟩ => ⟨S_, .f32⟩
  | .hbm, ⟨6, _⟩ => ⟨S6400000x3, .f32⟩
  | .hbm, ⟨7, _⟩ => ⟨S6400000x3, .f32⟩
  | .hbm, ⟨8, _⟩ => ⟨S_, .f32⟩
  | .hbm, ⟨9, _⟩ => ⟨S6400000, .f32⟩
  | .hbm, ⟨10, _⟩ => ⟨S_, .f32⟩
  | .hbm, ⟨11, _⟩ => ⟨S6400000, .f32⟩
  | .hbm, ⟨12, _⟩ => ⟨S6400000, .f32⟩
  | .hbm, ⟨13, _⟩ => ⟨S6400000, .f32⟩
  | .hbm, ⟨14, _⟩ => ⟨S_, .f32⟩
  | .hbm, ⟨15, _⟩ => ⟨S6400000, .f32⟩
  | .hbm, ⟨16, _⟩ => ⟨S6400000, .f32⟩
  | .hbm, ⟨17, _⟩ => ⟨S6400000, .f32⟩
  | .hbm, ⟨18, _⟩ => ⟨S6400000, .f32⟩
  | .hbm, ⟨19, _⟩ => ⟨S6400000, .f32⟩
  | .hbm, ⟨20, _⟩ => ⟨S_, .f32⟩
  | .hbm, ⟨21, _⟩ => ⟨S6400000, .f32⟩
  | .hbm, ⟨22, _⟩ => ⟨S6400000, .f32⟩
  | .hbm, ⟨23, _⟩ => ⟨S6400000, .f32⟩
  | .hbm, ⟨24, _⟩ => ⟨S_, .f32⟩
  | .hbm, ⟨25, _⟩ => ⟨S6400000, .f32⟩
  | .hbm, ⟨26, _⟩ => ⟨S6400000, .f32⟩
  | .hbm, ⟨27, _⟩ => ⟨S6400000, .f32⟩
  | .hbm, ⟨28, _⟩ => ⟨S_, .f32⟩
  | .hbm, ⟨29, _⟩ => ⟨S6400000, .f32⟩
  | .hbm, ⟨30, _⟩ => ⟨S6400000, .f32⟩
  | .hbm, ⟨31, _⟩ => ⟨S_, .f32⟩
  | .hbm, ⟨32, _⟩ => ⟨S6400000, .f32⟩
  | .hbm, ⟨33, _⟩ => ⟨S6400000, .i1⟩
  | .hbm, ⟨34, _⟩ => ⟨S6400000, .f32⟩
  | .hbm, ⟨35, _⟩ => ⟨S_, .f32⟩
  | .hbm, ⟨36, _⟩ => ⟨S6400000, .f32⟩
  | .hbm, ⟨37, _⟩ => ⟨S6400000, .f32⟩
  | .hbm, ⟨38, _⟩ => ⟨S6400000, .f32⟩
  | .hbm, ⟨39, _⟩ => ⟨S_, .f32⟩
  | .hbm, ⟨40, _⟩ => ⟨S6400000, .f32⟩
  | .hbm, ⟨41, _⟩ => ⟨S6400000, .f32⟩
  | .hbm, ⟨42, _⟩ => ⟨S_, .f32⟩
  | .hbm, ⟨43, _⟩ => ⟨S100000, .f32⟩
  | .hbm, ⟨44, _⟩ => ⟨S6400000x1, .i32⟩
  | .hbm, ⟨45, _⟩ => ⟨S100000, .f32⟩
  | .hbm, ⟨46, _⟩ => ⟨S_, .f32⟩
  | .hbm, ⟨47, _⟩ => ⟨S100000, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S100000, .f32⟩
  | .hbm, ⟨52, _⟩ => ⟨S1, .i32⟩
  | .hbm, ⟨53, _⟩ => ⟨S_, .i32⟩
  | .hbm, ⟨54, _⟩ => ⟨S6400000x1, .i32⟩
  | .hbm, ⟨55, _⟩ => ⟨S6400000x1, .i1⟩
  | .hbm, ⟨56, _⟩ => ⟨S1x1, .i32⟩
  | .hbm, ⟨57, _⟩ => ⟨S6400000x1, .i32⟩
  | .hbm, ⟨58, _⟩ => ⟨S6400000x1, .i1⟩
  | .hbm, ⟨59, _⟩ => ⟨S6400000x1, .i1⟩
  | .hbm, ⟨60, _⟩ => ⟨S_, .i1⟩
  | .hbm, ⟨61, _⟩ => ⟨S6400000, .i1⟩
  | .hbm, ⟨62, _⟩ => ⟨S6400000, .f32⟩
  | .hbm, ⟨63, _⟩ => ⟨S_, .f32⟩
  | .hbm, ⟨64, _⟩ => ⟨S6400000, .f32⟩
  | .hbm, ⟨65, _⟩ => ⟨S6400000, .f32⟩
  | .hbm, ⟨66, _⟩ => ⟨S_, .f32⟩
  | .hbm, ⟨67, _⟩ => ⟨S6400000, .f32⟩
  | .hbm, ⟨68, _⟩ => ⟨S6400000, .f32⟩
  | .hbm, ⟨69, _⟩ => ⟨S_, .f32⟩
  | .hbm, ⟨70, _⟩ => ⟨S6400000, .f32⟩
  | .hbm, ⟨71, _⟩ => ⟨S6400000, .f32⟩
  | .hbm, ⟨72, _⟩ => ⟨S6400000, .f32⟩
  | .hbm, ⟨73, _⟩ => ⟨S6400000, .f32⟩
  | .hbm, ⟨74, _⟩ => ⟨S6400000, .f32⟩
  | .hbm, ⟨75, _⟩ => ⟨S6400000, .f32⟩
  | .hbm, ⟨76, _⟩ => ⟨S6400000, .f32⟩
  | .hbm, ⟨77, _⟩ => ⟨S_, .f32⟩
  | .hbm, ⟨78, _⟩ => ⟨S6400000, .f32⟩
  | .hbm, ⟨79, _⟩ => ⟨S6400000, .f32⟩
  | .hbm, ⟨80, _⟩ => ⟨S6400000, .f32⟩
  | .hbm, ⟨81, _⟩ => ⟨S6400000x3, .f32⟩
  | .hbm, ⟨82, _⟩ => ⟨S6400000x3, .f32⟩
  | .hbm, ⟨83, _⟩ => ⟨S_, .f32⟩
  | .hbm, ⟨84, _⟩ => ⟨S100000x3, .f32⟩
  | .hbm, ⟨85, _⟩ => ⟨S6400000x1, .i32⟩
  | .hbm, ⟨86, _⟩ => ⟨S100000x3, .f32⟩
  | .hbm, ⟨87, _⟩ => ⟨S100000x3, .f32⟩
  | .hbm, ⟨88, _⟩ => ⟨S6400000x3, .f32⟩
  | .hbm, ⟨89, _⟩ => ⟨S_, .f32⟩
  | .hbm, ⟨90, _⟩ => ⟨S6400000, .f32⟩
  | .hbm, ⟨91, _⟩ => ⟨S_, .f32⟩
  | .hbm, ⟨92, _⟩ => ⟨S6400000, .f32⟩
  | .hbm, ⟨93, _⟩ => ⟨S6400000, .f32⟩
  | .hbm, ⟨94, _⟩ => ⟨S6400000, .f32⟩
  | .hbm, ⟨95, _⟩ => ⟨S6400000, .f32⟩
  | .hbm, ⟨96, _⟩ => ⟨S6400000, .f32⟩
  | .hbm, ⟨97, _⟩ => ⟨S_, .f32⟩
  | .hbm, ⟨98, _⟩ => ⟨S6400000, .f32⟩
  | .hbm, ⟨99, _⟩ => ⟨S6400000, .f32⟩
  | .hbm, ⟨100, _⟩ => ⟨S6400000, .f32⟩
  | .hbm, ⟨101, _⟩ => ⟨S_, .f32⟩
  | .hbm, ⟨102, _⟩ => ⟨S6400000, .f32⟩
  | .hbm, ⟨103, _⟩ => ⟨S6400000, .f32⟩
  | .hbm, ⟨104, _⟩ => ⟨S6400000, .f32⟩
  | .hbm, ⟨105, _⟩ => ⟨S6400000x1, .f32⟩
  | .hbm, ⟨106, _⟩ => ⟨S6400000x3, .f32⟩
  | .hbm, ⟨107, _⟩ => ⟨S6400000x3, .f32⟩
  | .hbm, ⟨108, _⟩ => ⟨S_, .f32⟩
  | .hbm, ⟨109, _⟩ => ⟨S100000x3, .f32⟩
  | .hbm, ⟨110, _⟩ => ⟨S6400000x1, .i32⟩
  | .hbm, ⟨111, _⟩ => ⟨S100000x3, .f32⟩
  | _, _ => ⟨S6400000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_8 : Ref sig .tc := ⟨.hbm, 39, rfl⟩
abbrev main_v28 : Ref sig .tc := ⟨.hbm, 40, rfl⟩
abbrev main_v29 : Ref sig .tc := ⟨.hbm, 41, rfl⟩
abbrev main_cst_9 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_10 : Ref sig .tc := ⟨.hbm, 46, rfl⟩
abbrev main_v33 : Ref sig .tc := ⟨.hbm, 47, rfl⟩
abbrev main_cst_11 : Ref sig .tc := ⟨.hbm, 48, rfl⟩
abbrev main_v34 : Ref sig .tc := ⟨.hbm, 49, rfl⟩
abbrev main_cst_12 : Ref sig .tc := ⟨.hbm, 50, rfl⟩
abbrev main_v35 : Ref sig .tc := ⟨.hbm, 51, rfl⟩
abbrev main_c : Ref sig .tc := ⟨.hbm, 52, rfl⟩
abbrev main_c_13 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_14 : Ref sig .tc := ⟨.hbm, 60, rfl⟩
abbrev main_v42 : Ref sig .tc := ⟨.hbm, 61, rfl⟩
abbrev main_v43 : Ref sig .tc := ⟨.hbm, 62, rfl⟩
abbrev main_cst_15 : Ref sig .tc := ⟨.hbm, 63, rfl⟩
abbrev main_v44 : Ref sig .tc := ⟨.hbm, 64, rfl⟩
abbrev main_v45 : Ref sig .tc := ⟨.hbm, 65, rfl⟩
abbrev main_cst_16 : Ref sig .tc := ⟨.hbm, 66, rfl⟩
abbrev main_v46 : Ref sig .tc := ⟨.hbm, 67, rfl⟩
abbrev main_v47 : Ref sig .tc := ⟨.hbm, 68, rfl⟩
abbrev main_cst_17 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_18 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_19 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_20 : Ref sig .tc := ⟨.hbm, 89, rfl⟩
abbrev main_v65 : Ref sig .tc := ⟨.hbm, 90, rfl⟩
abbrev main_cst_21 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_22 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_23 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_24 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩

abbrev nD : Nat := 1
abbrev τ : Topo := Topo.v7x

variable {F : FTy → Type} [FloatOps F]
-- ==== Proof.Words.lean ====
/-
  The words the tile kernel computes, in closed form: which chunks of edges a tile takes, where a chunk starts, the
  element of the accumulator an edge's force lands on, and the bounds the body assumes of them.
-/
module

public import proofs.«01_k».proof.Proof.Gen.KernelIdeal.Skeleton
public import Idealize.ShloMosaic.Lib.WordCmp
public import Idealize.ShloMosaic.Lib.Tactic

@[expose] public section

noncomputable section

namespace Cert.Proof.Tile

open Cert.KernelIdeal Cert.KernelIdeal.Gen
open Idealize.ShloMosaic Idealize.SL.Sem

/-! ## A tile's chunks -/

/-- The third of the receivers tile `s` accumulates. -/
def group (s : ℕ) : ℕ := if s < 6 then 0 else if s < 11 then 1 else 2
/-- Its place among the tiles of its third. -/
def slot (s : ℕ) : ℕ := if s < 6 then s else if s < 11 then s - 6 else s - 11
/-- How many tiles share its third. -/
def peers (s : ℕ) : ℕ := if s < 6 then 6 else 5
/-- How many chunks it takes. -/
def chunks (s : ℕ) : ℕ := (1000 - slot s + peers s - 1) / peers s
/-- The first edge of the chunk that trip `j` of tile `(c, s)` takes. -/
def edge0 (c s j : ℕ) : ℕ := c * 3200000 + (slot s + j * peers s) * 3200

theorem trips2 : ∀ i : grid0.Coords, (k0_t2_loop i).trips = chunks (i 1).val := by decide +kernel
theorem trips1 : k0_t1_loop.trips = 6336 := by decide +kernel
theorem trips3 : k0_t3_loop.trips = 200 := by decide +kernel
theorem trips4 (i : grid0.Coords) : (k0_t4_loop i).trips = 0 := Nat.le_zero.mp (k0_t4_abs i).2.1

theorem off3_eq : ∀ (i : grid0.Coords) (k : Fin (k0_t2_loop i).trips),
    k0_off3 i k = ![edge0 (i 0).val (i 1).val k.val] := by decide +kernel
theorem off2_eq : ∀ (i : grid0.Coords) (k : Fin (k0_t2_loop i).trips),
    k0_off2 i k = ![3 * edge0 (i 0).val (i 1).val k.val] := by decide +kernel

/-- The first receiver of tile `s`'s third, as a word. -/
def lo (s : ℕ) : BitVec 32 := BitVec.ofNat 32 (33792 * group s)

theorem lo_eq : ∀ i : grid0.Coords,
    Scalar.muli (Scalar.select (Scalar.cmpi .slt (BitVec.ofNat 32 (i 1).val) 6#32) 0#32
      (Scalar.select (Scalar.cmpi .slt (BitVec.ofNat 32 (i 1).val) 11#32) 1#32 2#32)) 33792#32 = lo (i 1).val := by decide +kernel

/-! ## Elements of a rank-one array -/

/-- Element `n` of a rank-one array (the array's length taken off until it is one). -/
def ix (n : ℕ) {N : ℕ} (h : 0 < N := by decide) : (⟨1, ![N]⟩ : Shape).Idx := Shape.ofLane (d := ![N]) ⟨n % N, Nat.mod_lt _ h⟩

theorem ix_val (n : ℕ) {N : ℕ} (h : 0 < N) (a : Fin 1) : (ix n h a).val = n % N := by
  obtain rfl : a = 0 := Subsingleton.elim _ _
  rfl

theorem ix_eq {N : ℕ} (h : 0 < N) (j : (⟨1, ![N]⟩ : Shape).Idx) (n : ℕ) (hn : (j 0).val = n) : j = ix n h := by
  funext a; apply Fin.ext
  rw [ix_val]
  obtain rfl : a = 0 := Subsingleton.elim _ _
  have hj : (j 0).val < N := (j 0).isLt
  rw [Nat.mod_eq_of_lt (by omega)]; exact hn

/-! ## The indices and their bounds -/

/-- Lane `x` of the iota the body multiplies its indices out of. -/
abbrev lanes : IVec S16 32 := iota .scVector S16 32 [0] iota_S16_d0_w32_scVector

theorem pay11_toNat : ∀ (k : Fin k0_t3_loop.trips) (x : S16.Idx),
    (k0_pay11 lanes 0#32 1#32 k x).toNat = 48 * k.val + 3 * (x 0).val := by decide +kernel
theorem pay12_toNat (k : Fin k0_t3_loop.trips) (x : S16.Idx) :
    (k0_pay12 (k0_pay11 lanes 0#32 1#32 k) x).toNat = 48 * k.val + 3 * (x 0).val + 1 := by
  revert k x; decide +kernel
theorem pay13_toNat (k : Fin k0_t3_loop.trips) (x : S16.Idx) :
    (k0_pay13 (k0_pay11 lanes 0#32 1#32 k) x).toNat = 48 * k.val + 3 * (x 0).val + 2 := by
  revert k x; decide +kernel

variable {F : FTy → Type} [FloatOps F] [Named F]

/-- An edge whose receiver is in the tile's third: its offset from the third's start is below 33792. -/
theorem pay19_iff (l : BitVec 32) (d : Vec F S16 .i32) (x : S16.Idx) :
    k0_pay19 l d x = 1 ↔ (d x - l).toNat < 33792 := by
  show IntOp.andi (IntOp.cmpi .sge (d x - l) 0#32) (IntOp.cmpi .slt (d x - l) 33792#32) = 1#1 ↔ _
  generalize (d x - l : BitVec 32) = w
  rw [WordCmp.cmpi_sge_zero, WordCmp.cmpi_slt_eq]
  have hw := w.isLt
  by_cases h : w.toNat < 33792
  · have h1 : w.toInt = w.toNat := by rw [BitVec.toInt_eq_toNat_cond]; split <;> omega
    have h2 : (33792#32 : BitVec 32).toInt = 33792 := by decide
    simp only [h, iff_true]
    rw [h1, h2, decide_eq_true (by omega : w.toNat < 2 ^ (32 - 1)), decide_eq_true (by omega : (w.toNat : ℤ) < 33792)]
    rfl
  · simp only [h, iff_false]
    by_cases h' : w.toNat < 2 ^ (32 - 1)
    · have h1 : w.toInt = w.toNat := by rw [BitVec.toInt_eq_toNat_cond]; split <;> omega
      have h2 : (33792#32 : BitVec 32).toInt = 33792 := by decide
      rw [h1, h2, decide_eq_false (by omega : ¬ (w.toNat : ℤ) < 33792)]
      cases decide (w.toNat < 2 ^ (32 - 1)) <;> decide
    · rw [decide_eq_false h']
      cases decide (w.toInt < (33792#32 : BitVec 32).toInt) <;> decide

/-- The element the edge's first component lands on. -/
theorem pay20_toNat (l : BitVec 32) (d : Vec F S16 .i32) (x : S16.Idx) :
    (k0_pay20 l d x).toNat = if (d x - l).toNat < 33792 then 3 * (d x - l).toNat else 0 := by
  show (if k0_pay19 l d x = 1 then (d x - l) * 3#32 else 0#32).toNat = _
  by_cases h : (d x - l : BitVec 32).toNat < 33792
  · rw [if_pos ((pay19_iff l d x).mpr h), if_pos h, BitVec.toNat_mul, show (3#32 : BitVec 32).toNat = 3 from rfl, Nat.mod_eq_of_lt (by omega)]
    omega
  · rw [if_neg (mt (pay19_iff l d x).mp h), if_neg h]; rfl

theorem pay20_le (l : BitVec 32) (d : Vec F S16 .i32) (x : S16.Idx) : (k0_pay20 l d x).toNat + 2 < 101376 := by
  rw [pay20_toNat]; split <;> omega

theorem pay20_add_toNat (l : BitVec 32) (d : Vec F S16 .i32) (x : S16.Idx) (o : ℕ) (ho : o < 3) :
    (k0_pay20 l d x + BitVec.ofNat 32 o).toNat = (k0_pay20 l d x).toNat + o := by
  have := pay20_le l d x
  rw [BitVec.toNat_add, BitVec.toNat_ofNat, Nat.mod_eq_of_lt (show o < 2 ^ 32 by omega), Nat.mod_eq_of_lt (by omega)]

theorem inb_vec {n : ℕ} (v : IVec S16 32) (h : ∀ x, (v x).toNat < n) :
    ∀ a x, ((![v] : Fin 1 → IVec S16 32) a x).toNat < (⟨1, ![n]⟩ : Shape).size a := by
  intro a x
  obtain rfl : a = 0 := Subsingleton.elim _ _
  exact h x

theorem chk1 (k : Fin k0_t3_loop.trips) : k0_chk1 (k0_pay11 lanes 0#32 1#32 k) :=
  inb_vec _ fun x => by
    have hk : k.val < 200 := trips3 ▸ k.isLt
    have hx : (x 0).val < 16 := (x 0).isLt
    rw [pay11_toNat]; omega
theorem chk2 (k : Fin k0_t3_loop.trips) : k0_chk2 (k0_pay12 (k0_pay11 lanes 0#32 1#32 k)) :=
  inb_vec _ fun x => by
    have hk : k.val < 200 := trips3 ▸ k.isLt
    have hx : (x 0).val < 16 := (x 0).isLt
    rw [pay12_toNat]; omega
theorem chk3 (k : Fin k0_t3_loop.trips) : k0_chk3 (k0_pay13 (k0_pay11 lanes 0#32 1#32 k)) :=
  inb_vec _ fun x => by
    have hk : k.val < 200 := trips3 ▸ k.isLt
    have hx : (x 0).val < 16 := (x 0).isLt
    rw [pay13_toNat]; omega
theorem chk4 (l : BitVec 32) (d : Vec F S16 .i32) : k0_chk4 (k0_pay20 l d) :=
  inb_vec _ fun x => by have := pay20_le l d x; omega
theorem pay22_toNat (l : BitVec 32) (d : Vec F S16 .i32) (x : S16.Idx) :
    (addi (k0_pay20 l d) k0_pay22 x).toNat = (k0_pay20 l d x).toNat + 1 := pay20_add_toNat l d x 1 (by omega)
theorem pay3_toNat (l : BitVec 32) (d : Vec F S16 .i32) (x : S16.Idx) :
    (k0_pay3 (k0_pay20 l d) x).toNat = (k0_pay20 l d x).toNat + 2 := pay20_add_toNat l d x 2 (by omega)
theorem chk5 (l : BitVec 32) (d : Vec F S16 .i32) : k0_chk5 (addi (k0_pay20 l d) k0_pay22) :=
  inb_vec _ fun x => by have := pay20_le l d x; rw [pay22_toNat]; omega
theorem chk6 (l : BitVec 32) (d : Vec F S16 .i32) : k0_chk6 (k0_pay3 (k0_pay20 l d)) :=
  inb_vec _ fun x => by have := pay20_le l d x; rw [pay3_toNat]; omega

/-! ## What a tile computes -/

/-- Edges `e0 …` of the bond vectors, as a chunk's copy lands them. -/
def bvChunk (bv : S19200000.Idx → F .f32) (e0 : ℕ) : Vec F S9600 .f32 := fun j => bv (ix (3 * e0 + (j 0).val))
/-- Edges `e0 …` of the receivers. -/
def dstChunk (dst : S6400000.Idx → BitVec 32) (e0 : ℕ) : Vec F S3200 .i32 := fun j => dst (ix (e0 + (j 0).val))
/-- Component `o` of the sixteen bond vectors of step `k`. -/
def comp (bvb : Vec F S9600 .f32) (k o : ℕ) : Vec F S16 .f32 := fun x => bvb (ix (48 * k + 3 * (x 0).val + o))
/-- The sixteen receivers of step `k`. -/
def recv (db : Vec F S3200 .i32) (k : ℕ) : Vec F S16 .i32 := fun x => db (ix (16 * k + (x 0).val))

/-- The accumulator and the running energy of a tile. -/
abbrev St (F : FTy → Type) : Type := (S101376.Idx → F .f32) × FVec F S16 .f32

/-- The accumulator after one step of sixteen edges: three masked scatters that add. -/
def stepAcc (l : BitVec 32) (d : Vec F S16 .i32) (x y z : Vec F S16 .f32) (acc : S101376.Idx → F .f32) : S101376.Idx → F .f32 :=
  storeIdx (s := S101376) (e := .f32) (F := F)
    (storeIdx (s := S101376) (e := .f32) (F := F)
      (storeIdx (s := S101376) (e := .f32) (F := F) acc ![k0_pay20 l d] (k0_pay21 x y z) (k0_pay19 l d) true (chk4 l d))
      ![addi (k0_pay20 l d) k0_pay22] (k0_pay2 y (k0_pay17 x y z)) (k0_pay19 l d) true (chk5 l d))
    ![k0_pay3 (k0_pay20 l d)] (k0_pay4 z (k0_pay17 x y z)) (k0_pay19 l d) true (chk6 l d)

/-- One step of sixteen edges. -/
def step (l : BitVec 32) (bvb : Vec F S9600 .f32) (db : Vec F S3200 .i32) (k : ℕ) (st : St F) : St F :=
  (stepAcc l (recv db k) (comp bvb k 0) (comp bvb k 1) (comp bvb k 2) st.1,
    k0_pay5 st.2 (k0_pay15 (comp bvb k 0) (comp bvb k 1) (comp bvb k 2)) (k0_pay16 (comp bvb k 0) (comp bvb k 1) (comp bvb k 2)))

/-- The first `k` steps of a chunk. -/
def steps (l : BitVec 32) (bvb : Vec F S9600 .f32) (db : Vec F S3200 .i32) (st : St F) : ℕ → St F
  | 0 => st
  | k + 1 => step l bvb db k (steps l bvb db st k)

theorem steps_succ (l : BitVec 32) (bvb : Vec F S9600 .f32) (db : Vec F S3200 .i32) (st : St F) (k : ℕ) :
    steps l bvb db st (k + 1) = step l bvb db k (steps l bvb db st k) := rfl

/-- Tile `(c, s)` after its first `j` chunks. -/
def tile (bv : S19200000.Idx → F .f32) (dst : S6400000.Idx → BitVec 32) (c s : ℕ) : ℕ → St F
  | 0 => (fun _ => Scalar.ofBits .f32 0x00000000#32, k0_pay1)
  | j + 1 => steps (lo s) (bvChunk bv (edge0 c s j)) (dstChunk dst (edge0 c s j)) (tile bv dst c s j) 200

theorem tile_succ (bv : S19200000.Idx → F .f32) (dst : S6400000.Idx → BitVec 32) (c s j : ℕ) :
    tile bv dst c s (j + 1)
      = steps (lo s) (bvChunk bv (edge0 c s j)) (dstChunk dst (edge0 c s j)) (tile bv dst c s j) 200 := rfl

/-- The partial sums of all tiles: row `(c, s)` is tile `(c, s)`'s accumulator. -/
def partials (bv : S19200000.Idx → F .f32) (dst : S6400000.Idx → BitVec 32) : S2x16x101376.Idx → F .f32 :=
  fun j => (tile bv dst (j 0).val (j 1).val (chunks (j 1).val)).1 (ix (j 2).val)
/-- The energies of all tiles. -/
def energies (bv : S19200000.Idx → F .f32) (dst : S6400000.Idx → BitVec 32) : S2x16x16.Idx → F .f32 :=
  fun j => k0_pay10 (tile bv dst (j 0).val (j 1).val (chunks (j 1).val)).2 (ix (j 2).val)

end Cert.Proof.Tile

end
-- ==== Proof.Setup.lean ====
/-
  What every part of the run shares: the program as the launch theorem sees it, the resource algebra (the handshakes'
  rounds, the pipeline's rounds, the transfers' counters), the arrays and the memrefs the tiles address them by.
-/
module

public import proofs.«01_k».proof.Proof.Words
public import proofs.«01_k».proof.Proof.Gen.KernelIdeal.Launch
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Tactic

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds; beside them the pipeline's rounds and the transfers' counters. -/
abbrev UH : Type := URounds (GSem nD τ sig) ℕ
abbrev UP : Type := UR sig nD τ × Counters
abbrev UU : Type := UH × UP

local notation "𝕄" => MT nD τ sig (HIx 1) (Elt F) ℕ UU ℕ

/-- The handshakes' rounds, -/
abbrev EH : Emb UH (MT nD τ sig (HIx 1) (Elt F) ℕ UU ℕ) := embL
/-- and the pipeline's. -/
abbrev EP : Emb (UR sig nD τ) (MT nD τ sig (HIx 1) (Elt F) ℕ UU ℕ) := (Emb.inl : Emb (UR sig nD τ) UP).trans embR

instance : (EP (F := F)).LandsIn (upEmb : UEmb _ 𝕄) := by unfold EP; infer_instance

/-! ## The arrays, as the TensorCore names them -/

abbrev bvLoc (d : Dev nD) : Loc nD τ sig := (SparseCore.T d).loc main_v0
abbrev dstLoc (d : Dev nD) : Loc nD τ sig := (SparseCore.T d).loc main_v2
abbrev pLoc (d : Dev nD) : Loc nD τ sig := (SparseCore.T d).loc main_v3_0
abbrev eLoc (d : Dev nD) : Loc nD τ sig := (SparseCore.T d).loc main_v3_1

end Cert.Proof.Tile

end
-- ==== Proof.Trip.lean ====
/-
  One step of sixteen edges of a tile, at any tile: the gathers out of the chunk's bond vectors, the receivers, and the
  three masked scatters that add to the accumulator.
-/
module

public import proofs.«01_k».proof.Proof.Setup

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

local notation "bvW" => (Memref.whole Cert.KernelIdeal.main_v0_scv : Memref Cert.KernelIdeal.sig Kind.scVector Space.hbm Cert.KernelIdeal.S19200000 EltTy.f32)
local notation "dstW" => (Memref.whole Cert.KernelIdeal.main_v2_scv : Memref Cert.KernelIdeal.sig Kind.scVector Space.hbm Cert.KernelIdeal.S6400000 EltTy.i32)
local notation "pW" => (Memref.whole Cert.KernelIdeal.main_v3_0_scv : Memref Cert.KernelIdeal.sig Kind.scVector Space.hbm Cert.KernelIdeal.S2x16x101376 EltTy.f32)
local notation "eW" => (Memref.whole Cert.KernelIdeal.main_v3_1_scv : Memref Cert.KernelIdeal.sig Kind.scVector Space.hbm Cert.KernelIdeal.S2x16x16 EltTy.f32)
local notation "accW" => (Memref.whole Cert.KernelIdeal.cc0_scratch0 : Memref Cert.KernelIdeal.sig Kind.scVector Space.vmem Cert.KernelIdeal.S101376 EltTy.f32)
local notation "bvsW" => (Memref.whole Cert.KernelIdeal.cc0_scratch1 : Memref Cert.KernelIdeal.sig Kind.scVector Space.vmem Cert.KernelIdeal.S9600 EltTy.f32)
local notation "dstsW" => (Memref.whole Cert.KernelIdeal.cc0_scratch2 : Memref Cert.KernelIdeal.sig Kind.scVector Space.vmem Cert.KernelIdeal.S3200 EltTy.i32)
local notation "evecW" => (Memref.whole Cert.KernelIdeal.cc0_scratch3 : Memref Cert.KernelIdeal.sig Kind.scVector Space.vmem Cert.KernelIdeal.S16 EltTy.f32)

/-- The thread of tile `i`. -/
abbrev thr (d : Dev nD) (i : grid0.Coords) : Thread nD τ := V d ((i 0).castLE hcore0) ((i 1).castLE hsub0)

/-- A tile's three scratches: the accumulator, the chunk's bond vectors, the chunk's receivers. -/
def scr (d : Dev nD) (i : grid0.Coords) (acc : S101376.Idx → F .f32) (bvb : Vec F S9600 .f32) (db : Vec F S3200 .i32) : sProp 𝕄 :=
  iprop(((accW).view.loc (thr d i) ↦{fullShare} (acc : Buf (Elt F) ((accW).view.loc (thr d i))))
    ∗ ((bvsW).view.loc (thr d i) ↦{fullShare} (bvb : Buf (Elt F) ((bvsW).view.loc (thr d i))))
    ∗ ((dstsW).view.loc (thr d i) ↦{fullShare} (db : Buf (Elt F) ((dstsW).view.loc (thr d i)))))

theorem trip (d : Dev nD) (i : grid0.Coords) (l : BitVec 32) (bvb : Vec F S9600 .f32) (db : Vec F S3200 .i32)
    (k : Fin k0_t3_loop.trips) (st : St F) :
    scr d i st.1 bvb db ⊢ wp frame (wpE (defs₀ (F := F)) 𝒱₀ (thr d i) none) Set.univ
      (k0_t3_body i bvW (Memref.isWhole_whole _) dstW (Memref.isWhole_whole _) pW (Memref.isWhole_whole _) eW (Memref.isWhole_whole _)
        accW (Memref.isWhole_whole _) bvsW (Memref.isWhole_whole _) dstsW (Memref.isWhole_whole _) evecW (Memref.isWhole_whole _)
        cc0_scoped0 cc0_scoped1 cc0_scoped2 cc0_scoped3 cc0_scoped4 cc0_scoped5 l lanes k st.2)
      fun e => iprop(⌜e = (step l bvb db k.val st).2⌝ ∗ scr d i (step l bvb db k.val st).1 bvb db) := by
  have h1 := chk1 k
  have h2 := chk2 k
  have h3 := chk3 k
  unfold k0_t3_body
  simp only [k0_part1_eq_skeleton]
  unfold k0_part1_skel
  simp only [SparseCore.vectorLoadIdx, SparseCore.vectorStoreIdx]
  unfold scr
  iintro ⟨Hacc, Hbv, Hdst⟩
  sl_exec
  generalize hd : View.readAt (Elt F) (dstsW).view (Rect.unit (k0_off4 k) ![16] _).toLoadRect db = dd
  generalize hx : loadIdx (View.readAt (Elt F) (bvsW).view (LoadRect.whole S9600) bvb) ![k0_pay11 lanes 0#32 1#32 k] _ = x
  generalize hy : loadIdx (View.readAt (Elt F) (bvsW).view (LoadRect.whole S9600) bvb) ![k0_pay12 (k0_pay11 lanes 0#32 1#32 k)] _ = y
  generalize hz : loadIdx (View.readAt (Elt F) (bvsW).view (LoadRect.whole S9600) bvb) ![k0_pay13 (k0_pay11 lanes 0#32 1#32 k)] _ = z
  have h4 := chk4 (F := F) l dd
  have h5 := chk5 (F := F) l dd
  have h6 := chk6 (F := F) l dd
  sl_exec
  have ed : dd = recv db k.val := by
    subst hd
    funext x
    rw [View.readAt_apply]
    refine congrArg db (ix_eq _ _ _ ?_)
    simp [LoadRect.idx_apply, k0_off4_eq]
  have ex : x = comp bvb k.val 0 := by
    subst hx
    funext x
    simp only [Memref.readAt_whole]
    exact congrArg bvb (ix_eq _ _ _ ((Nat.zero_add _).trans ((Nat.one_mul _).trans (pay11_toNat k x))))
  have ey : y = comp bvb k.val 1 := by
    subst hy
    funext x
    simp only [Memref.readAt_whole]
    exact congrArg bvb (ix_eq _ _ _ ((Nat.zero_add _).trans ((Nat.one_mul _).trans (pay12_toNat k x))))
  have ez : z = comp bvb k.val 2 := by
    subst hz
    funext x
    simp only [Memref.readAt_whole]
    exact congrArg bvb (ix_eq _ _ _ ((Nat.zero_add _).trans ((Nat.one_mul _).trans (pay13_toNat k x))))
  have hw : ∀ (f w : S101376.Idx → F .f32) L, (accW).view.writes (Elt F) f (⟨Rect.whole S101376, w⟩ :: L) = w :=
    fun f w L => Memref.write_access_whole_univ (Elt F) cc0_scratch0 _ w
  clear hd hx hy hz
  subst ed ex ey ez
  rw [hw]
  rw [wp_ret]
  imodintro
  iframe
  sl_unfold_words
  have h0 : ∀ f : S101376.Idx → F .f32, (accW).view.readAt (Elt F) (LoadRect.whole S101376) f = f :=
    fun f => Memref.readAt_whole (Elt F) cc0_scratch0 f
  have hr : ∀ (w : S101376.Idx → F .f32) L, (accW).view.readCov (Val := Elt F) (⟨Rect.whole S101376, w⟩ :: L) (LoadRect.whole S101376) = w :=
    fun w L => (h0 _).trans (hw _ w L)
  simp only [h0, hr]
  isplitl []
  · ipureintro; rfl
  · iexact Hacc

end Cert.Proof.Tile

end
-- ==== Proof.Chunk.lean ====
/-
  One trip of a tile's zeroing loop and one trip of its chunk loop, at any tile.
-/
module

public import proofs.«01_k».proof.Proof.Trip

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

local notation "bvW" => (Memref.whole Cert.KernelIdeal.main_v0_scv : Memref Cert.KernelIdeal.sig Kind.scVector Space.hbm Cert.KernelIdeal.S19200000 EltTy.f32)
local notation "dstW" => (Memref.whole Cert.KernelIdeal.main_v2_scv : Memref Cert.KernelIdeal.sig Kind.scVector Space.hbm Cert.KernelIdeal.S6400000 EltTy.i32)
local notation "pW" => (Memref.whole Cert.KernelIdeal.main_v3_0_scv : Memref Cert.KernelIdeal.sig Kind.scVector Space.hbm Cert.KernelIdeal.S2x16x101376 EltTy.f32)
local notation "eW" => (Memref.whole Cert.KernelIdeal.main_v3_1_scv : Memref Cert.KernelIdeal.sig Kind.scVector Space.hbm Cert.KernelIdeal.S2x16x16 EltTy.f32)
local notation "accW" => (Memref.whole Cert.KernelIdeal.cc0_scratch0 : Memref Cert.KernelIdeal.sig Kind.scVector Space.vmem Cert.KernelIdeal.S101376 EltTy.f32)
local notation "bvsW" => (Memref.whole Cert.KernelIdeal.cc0_scratch1 : Memref Cert.KernelIdeal.sig Kind.scVector Space.vmem Cert.KernelIdeal.S9600 EltTy.f32)
local notation "dstsW" => (Memref.whole Cert.KernelIdeal.cc0_scratch2 : Memref Cert.KernelIdeal.sig Kind.scVector Space.vmem Cert.KernelIdeal.S3200 EltTy.i32)
local notation "evecW" => (Memref.whole Cert.KernelIdeal.cc0_scratch3 : Memref Cert.KernelIdeal.sig Kind.scVector Space.vmem Cert.KernelIdeal.S16 EltTy.f32)

variable (d : Dev nD) (i : grid0.Coords)

/-- The accumulator's first `16 k` elements are zero. -/
def zeroed (k : ℕ) (_ : Unit) : sProp 𝕄 :=
  iprop(∃ f : S101376.Idx → F .f32, ⌜∀ j, (j 0).val < 16 * k → f j = Scalar.ofBits .f32 0x00000000#32⌝
    ∗ (accW).view.loc (thr d i) ↦{fullShare} (f : Buf (Elt F) ((accW).view.loc (thr d i))))

theorem zero_trip (k : Fin k0_t1_loop.trips) :
    zeroed (F := F) d i k.val () ⊢ wp frame (wpE (defs₀ (F := F)) 𝒱₀ (thr d i) none) Set.univ
      (k0_t1_body i bvW (Memref.isWhole_whole _) dstW (Memref.isWhole_whole _) pW (Memref.isWhole_whole _) eW (Memref.isWhole_whole _)
        accW (Memref.isWhole_whole _) bvsW (Memref.isWhole_whole _) dstsW (Memref.isWhole_whole _) evecW (Memref.isWhole_whole _)
        cc0_scoped0 cc0_scoped1 cc0_scoped2 cc0_scoped3 cc0_scoped4 cc0_scoped5 k ())
      (zeroed d i (k.val + 1)) := by
  unfold zeroed k0_t1_body
  iintro ⟨%f, %hf, Hacc⟩
  sl_exec
  rw [wp_ret]
  imodintro
  iexists _
  isplitr
  swap; · iexact Hacc
  ipureintro
  intro j hj
  show (accW).view.read (Elt F) ((accW).view.writes (Elt F) f [⟨Rect.unit (k0_off1 k) S16.size (k0_off1_inb k), k0_pay35⟩]) j = _
  by_cases hm : 16 * k.val ≤ (j 0).val
  · rw [View.read_writes_cons_hit_of_coords (x := ix ((j 0).val - 16 * k.val))]
    · rfl
    · intro a
      obtain rfl : a = (0 : Fin 1) := Subsingleton.elim (α := Fin 1) _ _
      show (j 0).val = k0_off1 k 0 + 1 * (((j 0).val - 16 * k.val) % 16)
      rw [k0_off1_eq]
      show (j 0).val = 16 * k.val + 1 * (((j 0).val - 16 * k.val) % 16)
      omega
  · rw [View.read_writes_cons_miss_of_axis (a := 0) (o := 16 * k.val) (n := 16)]
    · exact hf j (by omega)
    · exact congrFun (k0_off1_eq k) 0
    · rfl
    · rfl
    · left; omega

/-- What a tile holds before chunk `j`: the bond vectors and the receivers to read, its scratches with the accumulator
    and the running energy of the first `j` chunks, the two copies' semaphores at zero. -/
def chunked (q : PosShare TreeShare) (bv : S19200000.Idx → F .f32) (dst : S6400000.Idx → BitVec 32) (O : CellTallies nD τ sig (HIx 1))
    (W : Waits sig (HIx 1)) (j : ℕ) (e : FVec F S16 .f32) : sProp 𝕄 :=
  iprop(Transfers.MayWaits (thr d i) (none : HIx 1) O
    ∗ ((bvW).view.loc (thr d i) ↦{q} (bv : Buf (Elt F) ((bvW).view.loc (thr d i))))
    ∗ ((dstW).view.loc (thr d i) ↦{q} (dst : Buf (Elt F) ((dstW).view.loc (thr d i))))
    ∗ (∃ bvb db, scr d i (tile bv dst (i 0).val (i 1).val j).1 bvb db)
    ∗ semVal (thr d i, SemLoc.dma cc0_scoped0.sem) 0 ∗ semVal (thr d i, SemLoc.dma cc0_scoped1.sem) 0
    ∗ (∃ W', ⌜∀ p ∈ W', p ∈ W ∨ p.2 = none⌝ ∗ owes (thr d i) O W')
    ∗ ⌜e = (tile bv dst (i 0).val (i 1).val j).2⌝)

theorem off2_at (i : grid0.Coords) (k : Fin (k0_t2_loop i).trips) : k0_off2 i k 0 = 3 * edge0 (i 0).val (i 1).val k.val := by
  rw [off2_eq]; exact Matrix.cons_val_zero _ _
theorem off3_at (i : grid0.Coords) (k : Fin (k0_t2_loop i).trips) : k0_off3 i k 0 = edge0 (i 0).val (i 1).val k.val := by
  rw [off3_eq]; exact Matrix.cons_val_zero _ _

/-- A chunk of the bond vectors, element by element. -/
theorem read_bv (off : Fin 1 → ℕ) (inb : ∀ a, off a + S9600.size a ≤ S19200000.size a) (o : ℕ) (ho : off 0 = o)
    (bv : S19200000.Idx → F .f32) (x : S9600.Idx) :
    ((bvW).slice (Rect.unit (s := S19200000) off S9600.size inb) (fun _ => rfl)).view.read (Elt F) bv x = bv (ix (o + (x 0).val)) := by
  rw [View.read_apply, cast_eq]
  refine congrArg bv (ix_eq _ _ _ ?_)
  subst ho
  show off 0 + 1 * (x 0).val = _
  rw [Nat.one_mul]

/-- A chunk of the receivers, element by element. -/
theorem read_dst (off : Fin 1 → ℕ) (inb : ∀ a, off a + S3200.size a ≤ S6400000.size a) (o : ℕ) (ho : off 0 = o)
    (dst : S6400000.Idx → BitVec 32) (x : S3200.Idx) :
    ((dstW).slice (Rect.unit (s := S6400000) off S3200.size inb) (fun _ => rfl)).view.read (Elt F) dst x = dst (ix (o + (x 0).val)) := by
  rw [View.read_apply, cast_eq]
  refine congrArg dst (ix_eq _ _ _ ?_)
  subst ho
  show off 0 + 1 * (x 0).val = _
  rw [Nat.one_mul]

theorem chunk_trip (q : PosShare TreeShare) (bv : S19200000.Idx → F .f32) (dst : S6400000.Idx → BitVec 32) (O : CellTallies nD τ sig (HIx 1))
    (W : Waits sig (HIx 1)) (k : Fin (k0_t2_loop i).trips) (e : FVec F S16 .f32) :
    chunked d i q bv dst O W k.val e ⊢ wp frame (wpE (defs₀ (F := F)) 𝒱₀ (thr d i) none) Set.univ
      (k0_t2_body i bvW (Memref.isWhole_whole _) dstW (Memref.isWhole_whole _) pW (Memref.isWhole_whole _) eW (Memref.isWhole_whole _)
        accW (Memref.isWhole_whole _) bvsW (Memref.isWhole_whole _) dstsW (Memref.isWhole_whole _) evecW (Memref.isWhole_whole _)
        cc0_scoped0 cc0_scoped1 cc0_scoped2 cc0_scoped3 cc0_scoped4 cc0_scoped5 (lo (i 1).val) lanes k e)
      (chunked d i q bv dst O W (k.val + 1)) := by
  unfold chunked k0_t2_body
  iintro ⟨#Hmw, Hbv, Hdst, ⟨%bvb, %db, Hscr⟩, Hs0, Hs1, ⟨%W', %hW', HO⟩, %he⟩
  unfold scr
  icases Hscr with ⟨Ha, Hb, Hd⟩
  sl_exec (disch := first | exact View.amount_pos _ _ (show 0 < S9600.numel by decide) | exact View.amount_pos _ _ (show 0 < S3200.numel by decide))
  generalize hb1 : View.write (Elt F) (bvsW).view bvb _ Finset.univ = b1
  generalize hd1 : View.write (Elt F) (dstsW).view db _ Finset.univ = d1
  have eb : b1 = bvChunk bv (edge0 (i 0).val (i 1).val k.val) := by
    subst hb1
    refine (View.write_whole_univ _ _ _).trans (funext fun x => ?_)
    exact read_bv _ (k0_off2_inb i k) _ (off2_at i k) bv x
  have ed : d1 = dstChunk dst (edge0 (i 0).val (i 1).val k.val) := by
    subst hd1
    refine (View.write_whole_univ _ _ _).trans (funext fun x => ?_)
    exact read_dst _ (k0_off3_inb i k) _ (off3_at i k) dst x
  clear hb1 hd1
  subst eb ed he
  sl_for (fun n e' => iprop(⌜e' = (steps (lo (i 1).val) (bvChunk bv (edge0 (i 0).val (i 1).val k.val)) (dstChunk dst (edge0 (i 0).val (i 1).val k.val))
      (tile bv dst (i 0).val (i 1).val k.val) n).2⌝
    ∗ scr d i (steps (lo (i 1).val) (bvChunk bv (edge0 (i 0).val (i 1).val k.val)) (dstChunk dst (edge0 (i 0).val (i 1).val k.val))
      (tile bv dst (i 0).val (i 1).val k.val) n).1 (bvChunk bv (edge0 (i 0).val (i 1).val k.val)) (dstChunk dst (edge0 (i 0).val (i 1).val k.val)))) $$ [Ha Hb Hd]
  case region =>
    intro n e'
    iintro ⟨%he, Hscr⟩
    subst he
    rw [steps_succ]
    iapply (trip d i _ _ _ n _) $$ Hscr
  · isplitr; · ipureintro; rfl
    unfold scr
    isplitl [Ha]; · iexact Ha
    isplitl [Hb] <;> iassumption
  iintro %e' ⟨%he, Hscr⟩
  have h200 : Scf.trips k0_t3_loop.lb k0_t3_loop.ub k0_t3_loop.st = 200 := trips3
  rw [h200] at he ⊢
  rw [tile_succ]
  generalize steps (F := F) (lo (i 1).val) _ _ _ 200 = st at he ⊢
  sl_exec
  rw [wp_ret]
  imodintro
  isplitr; · iexact Hmw
  isplitl [Hbv]; · iexact Hbv
  isplitl [Hdst]; · iexact Hdst
  isplitl [Hscr]
  · iexists _, _
    unfold scr
    iexact Hscr
  isplitl [Hs0]; · iexact Hs0
  isplitl [Hs1]; · iexact Hs1
  isplitl [HO]
  · iexists _
    isplitr
    swap; · iexact HO
    ipureintro
    intro p hp
    rcases Finset.mem_insert.mp hp with hp | hp
    · exact .inr (hp ▸ rfl)
    rcases Finset.mem_insert.mp hp with hp | hp
    · exact .inr (hp ▸ rfl)
    · exact hW' p hp
  ipureintro
  exact he

end Cert.Proof.Tile

end
-- ==== Proof.Rows.lean ====
/-
  The whole task of a tile, at any tile: the accumulator zeroed, the chunks, the energy stored, the two rows written out.
-/
module

public import proofs.«01_k».proof.Proof.Chunk

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx ownSems0 ownBufs ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Tactic

/-! ## Rows of the two result arrays -/

/-- The elements of row `(c, s)`. -/
def rowOf (N c s : ℕ) : Finset (⟨3, ![2, 16, N]⟩ : Shape).Idx := Finset.univ.filter fun j => (j 0).val = c ∧ (j 1).val = s

theorem mem_rowOf {N c s : ℕ} {j : (⟨3, ![2, 16, N]⟩ : Shape).Idx} : j ∈ rowOf N c s ↔ (j 0).val = c ∧ (j 1).val = s := by
  simp [rowOf]

theorem row_set {N : ℕ} (off : Fin 3 → ℕ) (inb : ∀ a, off a + (⟨3, ![1, 1, N]⟩ : Shape).size a ≤ (⟨3, ![2, 16, N]⟩ : Shape).size a)
    (c s : ℕ) (ho : off = ![c, s, 0]) :
    (Rect.unit (s := ⟨3, ![2, 16, N]⟩) off (⟨3, ![1, 1, N]⟩ : Shape).size inb).set = rowOf N c s := by
  subst ho
  ext j
  rw [Rect.mem_set_unit, mem_rowOf, Fin.forall_fin_succ, Fin.forall_fin_succ, Fin.forall_fin_one]
  have h2 : (j 2).val < N := (j 2).isLt
  show (c ≤ (j 0).val ∧ (j 0).val < c + 1) ∧ (s ≤ (j 1).val ∧ (j 1).val < s + 1) ∧ (0 ≤ (j 2).val ∧ (j 2).val < 0 + N) ↔ _
  omega

theorem row_emb {N : ℕ} (off : Fin 3 → ℕ) (inb : ∀ a, off a + (⟨3, ![1, 1, N]⟩ : Shape).size a ≤ (⟨3, ![2, 16, N]⟩ : Shape).size a)
    (c s : ℕ) (ho : off = ![c, s, 0]) (h : (⟨1, ![N]⟩ : Shape).numel = (⟨3, ![1, 1, N]⟩ : Shape).numel) (x : (⟨1, ![N]⟩ : Shape).Idx) :
    (((Rect.unit (s := ⟨3, ![2, 16, N]⟩) off (⟨3, ![1, 1, N]⟩ : Shape).size inb).emb (Shape.reshapeEquiv h x)) 0).val = c
      ∧ (((Rect.unit (s := ⟨3, ![2, 16, N]⟩) off (⟨3, ![1, 1, N]⟩ : Shape).size inb).emb (Shape.reshapeEquiv h x)) 1).val = s
      ∧ (((Rect.unit (s := ⟨3, ![2, 16, N]⟩) off (⟨3, ![1, 1, N]⟩ : Shape).size inb).emb (Shape.reshapeEquiv h x)) 2).val = (x 0).val := by
  subst ho
  have e : Shape.reshapeEquiv h x = Fin.cons (⟨0, Nat.one_pos⟩ : Fin 1) (Fin.cons (⟨0, Nat.one_pos⟩ : Fin 1) x) :=
    Shape.reshapeEquiv_eq_of_rowMajor h (by
      rw [Shape.rowMajor_val_three, Shape.rowMajor_val_one]
      show (0 * 1 + 0) * N + (x 0).val = (x 0).val
      simp only [Nat.zero_mul, Nat.zero_add])
  rw [e]
  refine ⟨?_, ?_, ?_⟩
  · show c + 1 * 0 = c
    omega
  · show s + 1 * 0 = s
    omega
  · show 0 + 1 * (x 0).val = _
    omega

variable {F : FTy → Type}

local notation "𝕄" => MT nD τ sig (HIx 1) (Elt F) ℕ UU ℕ

local notation "bvW" => (Memref.whole Cert.KernelIdeal.main_v0_scv : Memref Cert.KernelIdeal.sig Kind.scVector Space.hbm Cert.KernelIdeal.S19200000 EltTy.f32)
local notation "dstW" => (Memref.whole Cert.KernelIdeal.main_v2_scv : Memref Cert.KernelIdeal.sig Kind.scVector Space.hbm Cert.KernelIdeal.S6400000 EltTy.i32)
local notation "pW" => (Memref.whole Cert.KernelIdeal.main_v3_0_scv : Memref Cert.KernelIdeal.sig Kind.scVector Space.hbm Cert.KernelIdeal.S2x16x101376 EltTy.f32)
local notation "eW" => (Memref.whole Cert.KernelIdeal.main_v3_1_scv : Memref Cert.KernelIdeal.sig Kind.scVector Space.hbm Cert.KernelIdeal.S2x16x16 EltTy.f32)
local notation "accW" => (Memref.whole Cert.KernelIdeal.cc0_scratch0 : Memref Cert.KernelIdeal.sig Kind.scVector Space.vmem Cert.KernelIdeal.S101376 EltTy.f32)
local notation "bvsW" => (Memref.whole Cert.KernelIdeal.cc0_scratch1 : Memref Cert.KernelIdeal.sig Kind.scVector Space.vmem Cert.KernelIdeal.S9600 EltTy.f32)
local notation "dstsW" => (Memref.whole Cert.KernelIdeal.cc0_scratch2 : Memref Cert.KernelIdeal.sig Kind.scVector Space.vmem Cert.KernelIdeal.S3200 EltTy.i32)
local notation "evecW" => (Memref.whole Cert.KernelIdeal.cc0_scratch3 : Memref Cert.KernelIdeal.sig Kind.scVector Space.vmem Cert.KernelIdeal.S16 EltTy.f32)

variable (d : Dev nD) (i : grid0.Coords)

/-- The row of `p_out` a tile writes, and the row of `e_out`. -/
abbrev pRowK : Memref sig .scVector .hbm S101376 .f32 :=
  ((pW).slice (Rect.unit (s := S2x16x101376) (k0_off8 i) S1x1x101376.size (k0_off8_inb i)) (fun _ => rfl)).squeeze S101376 squeezes_S1x1x101376_S101376
abbrev eRowK : Memref sig .scVector .hbm S16 .f32 :=
  ((eW).slice (Rect.unit (s := S2x16x16) (k0_off9 i) S1x1x16.size (k0_off9_inb i)) (fun _ => rfl)).squeeze S16 squeezes_S1x1x16_S16

theorem set_pRowK : (pRowK i).view.set = rowOf 101376 (i 0).val (i 1).val := by
  show (((pW).view.slice (Rect.unit (s := S2x16x101376) (k0_off8 i) S1x1x101376.size (k0_off8_inb i))).reshape S101376
    squeezes_S1x1x101376_S101376.numel_eq).set = _
  rw [View.set_reshape]
  exact (View.set_slice_whole _ _).trans (row_set _ _ _ _ (k0_off8_eq i))
theorem set_eRowK : (eRowK i).view.set = rowOf 16 (i 0).val (i 1).val := by
  show (((eW).view.slice (Rect.unit (s := S2x16x16) (k0_off9 i) S1x1x16.size (k0_off9_inb i))).reshape S16
    squeezes_S1x1x16_S16.numel_eq).set = _
  rw [View.set_reshape]
  exact (View.set_slice_whole _ _).trans (row_set _ _ _ _ (k0_off9_eq i))

/-- The two rows written hold the tile's accumulator and energies. -/
theorem pRow_written (f : Buf (Elt F) (pLoc d)) (g : S2x16x101376.Idx → F .f32) (acc : S101376.Idx → F .f32)
    (hf : ∀ x, (pRowK i).view.read (Elt F) f x = acc x)
    (hg : ∀ j ∈ rowOf 101376 (i 0).val (i 1).val, g j = acc (ix (j 2).val)) :
    ((pRowK i).view.loc (thr d i) ↦[(pRowK i).view.set]{fullShare} f : sProp 𝕄)
      = pLoc d ↦[rowOf 101376 (i 0).val (i 1).val]{fullShare} (g : Buf (Elt F) (pLoc d)) := by
  rw [← set_pRowK]
  refine pointsTo_congr fun j hj => ?_
  obtain ⟨x, -, rfl⟩ := Finset.mem_map.mp hj
  refine (hf x).trans ?_
  have h := row_emb (k0_off8 i) (k0_off8_inb i) _ _ (k0_off8_eq i) squeezes_S1x1x101376_S101376.numel_eq x
  refine (Eq.trans (hg _ (by rw [← set_pRowK]; exact hj)) (congrArg acc ?_)).symm
  exact (ix_eq _ _ _ h.2.2.symm).symm
theorem eRow_written (f : Buf (Elt F) (eLoc d)) (g : S2x16x16.Idx → F .f32) (acc : S16.Idx → F .f32)
    (hf : ∀ x, (eRowK i).view.read (Elt F) f x = acc x)
    (hg : ∀ j ∈ rowOf 16 (i 0).val (i 1).val, g j = acc (ix (j 2).val)) :
    ((eRowK i).view.loc (thr d i) ↦[(eRowK i).view.set]{fullShare} f : sProp 𝕄)
      = eLoc d ↦[rowOf 16 (i 0).val (i 1).val]{fullShare} (g : Buf (Elt F) (eLoc d)) := by
  rw [← set_eRowK]
  refine pointsTo_congr fun j hj => ?_
  obtain ⟨x, -, rfl⟩ := Finset.mem_map.mp hj
  refine (hf x).trans ?_
  have h := row_emb (k0_off9 i) (k0_off9_inb i) _ _ (k0_off9_eq i) squeezes_S1x1x16_S16.numel_eq x
  refine (Eq.trans (hg _ (by rw [← set_eRowK]; exact hj)) (congrArg acc ?_)).symm
  exact (ix_eq _ _ _ h.2.2.symm).symm

end Cert.Proof.Tile

end
-- ==== Proof.Tile.lean ====
/-
  The whole task of a tile, at any tile: the accumulator zeroed, the chunks, the energy stored, the two rows written out.
-/
module

public import proofs.«01_k».proof.Proof.Rows

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ
local notation "bvW" => (Memref.whole Cert.KernelIdeal.main_v0_scv : Memref Cert.KernelIdeal.sig Kind.scVector Space.hbm Cert.KernelIdeal.S19200000 EltTy.f32)
local notation "dstW" => (Memref.whole Cert.KernelIdeal.main_v2_scv : Memref Cert.KernelIdeal.sig Kind.scVector Space.hbm Cert.KernelIdeal.S6400000 EltTy.i32)
local notation "pW" => (Memref.whole Cert.KernelIdeal.main_v3_0_scv : Memref Cert.KernelIdeal.sig Kind.scVector Space.hbm Cert.KernelIdeal.S2x16x101376 EltTy.f32)
local notation "eW" => (Memref.whole Cert.KernelIdeal.main_v3_1_scv : Memref Cert.KernelIdeal.sig Kind.scVector Space.hbm Cert.KernelIdeal.S2x16x16 EltTy.f32)
local notation "accW" => (Memref.whole Cert.KernelIdeal.cc0_scratch0 : Memref Cert.KernelIdeal.sig Kind.scVector Space.vmem Cert.KernelIdeal.S101376 EltTy.f32)
local notation "bvsW" => (Memref.whole Cert.KernelIdeal.cc0_scratch1 : Memref Cert.KernelIdeal.sig Kind.scVector Space.vmem Cert.KernelIdeal.S9600 EltTy.f32)
local notation "dstsW" => (Memref.whole Cert.KernelIdeal.cc0_scratch2 : Memref Cert.KernelIdeal.sig Kind.scVector Space.vmem Cert.KernelIdeal.S3200 EltTy.i32)
local notation "evecW" => (Memref.whole Cert.KernelIdeal.cc0_scratch3 : Memref Cert.KernelIdeal.sig Kind.scVector Space.vmem Cert.KernelIdeal.S16 EltTy.f32)

variable (d : Dev nD) (i : grid0.Coords)

theorem whole_emb {s : Shape} (x : s.Idx) : (Rect.whole s).emb x = x := by
  funext a
  apply Fin.ext
  show 0 + 1 * (x a).val = _
  omega

/-- The cells of the tile's four copies that run. -/
abbrev cell0 : GSem nD τ sig := (thr d i, .dma cc0_scoped0.sem)
abbrev cell1 : GSem nD τ sig := (thr d i, .dma cc0_scoped1.sem)
abbrev cell4 : GSem nD τ sig := (thr d i, .dma cc0_scoped4.sem)
abbrev cell5 : GSem nD τ sig := (thr d i, .dma cc0_scoped5.sem)

/-- The tile's semaphores: those four and the rest. -/
theorem sems_split :
    (ownSems0 (thr d i) : sProp 𝕄)
      = iprop(semVal (cell0 d i) 0 ∗ semVal (cell1 d i) 0 ∗ semVal (cell4 d i) 0 ∗ semVal (cell5 d i) 0
          ∗ bigSep (((((ownCells (thr d i)).erase (cell0 d i)).erase (cell1 d i)).erase (cell4 d i)).erase (cell5 d i)) fun g => semVal g 0) := by
  unfold SparseCore.Cfg.ownSems0
  have m0 : cell0 d i ∈ ownCells (thr d i) := (mem_ownCells (g := cell0 d i)).mpr ⟨rfl, by
    show (SemLoc.dma cc0_scoped0.sem : SemLoc sig).isScoped .scVector = true; decide⟩
  have m1 : cell1 d i ∈ ownCells (thr d i) := (mem_ownCells (g := cell1 d i)).mpr ⟨rfl, by
    show (SemLoc.dma cc0_scoped1.sem : SemLoc sig).isScoped .scVector = true; decide⟩
  have m4 : cell4 d i ∈ ownCells (thr d i) := (mem_ownCells (g := cell4 d i)).mpr ⟨rfl, by
    show (SemLoc.dma cc0_scoped4.sem : SemLoc sig).isScoped .scVector = true; decide⟩
  have m5 : cell5 d i ∈ ownCells (thr d i) := (mem_ownCells (g := cell5 d i)).mpr ⟨rfl, by
    show (SemLoc.dma cc0_scoped5.sem : SemLoc sig).isScoped .scVector = true; decide⟩
  have n10 : cell1 d i ≠ cell0 d i := by simp [cell0, cell1]; decide
  have n40 : cell4 d i ≠ cell0 d i := by simp [cell0, cell4]; decide
  have n41 : cell4 d i ≠ cell1 d i := by simp [cell1, cell4]; decide
  have n50 : cell5 d i ≠ cell0 d i := by simp [cell0, cell5]; decide
  have n51 : cell5 d i ≠ cell1 d i := by simp [cell1, cell5]; decide
  have n54 : cell5 d i ≠ cell4 d i := by simp [cell4, cell5]; decide
  rw [SparseCore.bigSep_erase' m0, SparseCore.bigSep_erase' (Finset.mem_erase.mpr ⟨n10, m1⟩),
    SparseCore.bigSep_erase' (Finset.mem_erase.mpr ⟨n41, Finset.mem_erase.mpr ⟨n40, m4⟩⟩),
    SparseCore.bigSep_erase' (Finset.mem_erase.mpr ⟨n54, Finset.mem_erase.mpr ⟨n51, Finset.mem_erase.mpr ⟨n50, m5⟩⟩⟩)]

/-- Scratch `r` of the tile. -/
abbrev scrRef (r : Ref sig .scVector) : DevRef τ sig := (Proc.scVector ((i 0).castLE hcore0) ((i 1).castLE hsub0)).devRef r

/-- The tile's buffers: its four scratches and the rest. -/
theorem bufs_split :
    (ownBufs (thr d i) : sProp 𝕄)
      = iprop((∃ f, (thr d i).loc cc0_scratch0 ↦{fullShare} f) ∗ (∃ f, (thr d i).loc cc0_scratch1 ↦{fullShare} f)
          ∗ (∃ f, (thr d i).loc cc0_scratch2 ↦{fullShare} f) ∗ (∃ f, (thr d i).loc cc0_scratch3 ↦{fullShare} f)
          ∗ bigSep (((((ownRefs (τ := τ) (.scVector ((i 0).castLE hcore0) ((i 1).castLE hsub0))).erase (scrRef i cc0_scratch0)).erase
              (scrRef i cc0_scratch1)).erase (scrRef i cc0_scratch2)).erase (scrRef i cc0_scratch3))
              fun b => iprop(∃ f, ((d, b) : Loc nD τ sig) ↦{fullShare} f)) := by
  unfold SparseCore.Cfg.ownBufs
  have mem (r : Ref sig .scVector) (h : (scrRef i r).owner = Owner.proc (Proc.scVector ((i 0).castLE hcore0) ((i 1).castLE hsub0))) :
      scrRef i r ∈ ownRefs (τ := τ) (.scVector ((i 0).castLE hcore0) ((i 1).castLE hsub0)) :=
    SparseCore.Cfg.mem_ownRefs_of_owner (p := Proc.scVector ((i 0).castLE hcore0) ((i 1).castLE hsub0)) (b := scrRef i r) h
  have ne (r r' : Ref sig .scVector) (h : r ≠ r') : scrRef i r ≠ scrRef i r' := fun e => h (Proc.devRef_injective _ e)
  refine (SparseCore.bigSep_erase' (mem cc0_scratch0 rfl)).trans ?_
  rw [SparseCore.bigSep_erase' (Finset.mem_erase.mpr ⟨ne cc0_scratch1 cc0_scratch0 (by decide), mem cc0_scratch1 rfl⟩),
    SparseCore.bigSep_erase' (Finset.mem_erase.mpr ⟨ne cc0_scratch2 cc0_scratch1 (by decide),
      Finset.mem_erase.mpr ⟨ne cc0_scratch2 cc0_scratch0 (by decide), mem cc0_scratch2 rfl⟩⟩),
    SparseCore.bigSep_erase' (Finset.mem_erase.mpr ⟨ne cc0_scratch3 cc0_scratch2 (by decide),
      Finset.mem_erase.mpr ⟨ne cc0_scratch3 cc0_scratch1 (by decide),
        Finset.mem_erase.mpr ⟨ne cc0_scratch3 cc0_scratch0 (by decide), mem cc0_scratch3 rfl⟩⟩⟩)]

variable [FloatOps F] [Named F]

/-- What a tile is handed: a share of the bond vectors and of the receivers, and its row of each result. -/
abbrev given (q : PosShare TreeShare) (X : S19200000.Idx → F .f32) (Y : S6400000.Idx → BitVec 32)
    (P0 : S2x16x101376.Idx → F .f32) (E0 : S2x16x16.Idx → F .f32) (d : Dev nD) (c s : ℕ) : sProp 𝕄 :=
  iprop((bvLoc d ↦{q} (X : Buf (Elt F) (bvLoc d))) ∗ (dstLoc d ↦{q} (Y : Buf (Elt F) (dstLoc d)))
    ∗ (pLoc d ↦[rowOf 101376 c s]{fullShare} (P0 : Buf (Elt F) (pLoc d))) ∗ eLoc d ↦[rowOf 16 c s]{fullShare} (E0 : Buf (Elt F) (eLoc d)))

/-- The task of a tile: from its share of the arguments and its rows, the rows at its accumulator and its energies. -/
theorem tile_body (q : PosShare TreeShare) (X : S19200000.Idx → F .f32) (Y : S6400000.Idx → BitVec 32)
    (P0 : S2x16x101376.Idx → F .f32) (E0 : S2x16x16.Idx → F .f32)
    (hF : (K (F := F)).Facts) (O : CellTallies nD τ sig (HIx 1)) (W : Waits sig (HIx 1)) (hO : ∀ g, O g none = 0) :
    iprop(levAts (K (F := F)).L (K (F := F)).lev ∗ emp ∗ given q X Y P0 E0 d (i 0).val (i 1).val
        ∗ scopedBufs (thr d i) ∗ scopedSems0 (thr d i) ∗ owes (thr d i) O W)
      ⊢ wp frame (wpE (defs₀ (F := F)) 𝒱₀ (thr d i) none) Set.univ
          (cc0__sc_body i bvW (Memref.isWhole_whole _) dstW (Memref.isWhole_whole _) pW (Memref.isWhole_whole _) eW (Memref.isWhole_whole _)
            accW (Memref.isWhole_whole _) bvsW (Memref.isWhole_whole _) dstsW (Memref.isWhole_whole _) evecW (Memref.isWhole_whole _)
            cc0_scoped0 cc0_scoped1 cc0_scoped2 cc0_scoped3 cc0_scoped4 cc0_scoped5)
          fun _ => iprop(given q X Y (partials X Y) (energies X Y) d (i 0).val (i 1).val
            ∗ scopedBufs (thr d i) ∗ scopedSems0 (thr d i)
            ∗ ∃ W', ⌜∀ p ∈ W', p ∈ W ∨ p.2 = none ∨ p.2 = some (0 : Fin 1)⌝ ∗ owes (thr d i) O W') := by
  rw [(K (F := F)).scopedBufs_V hF d ((i 0).castLE hcore0) ((i 1).castLE hsub0),
    SparseCore.Cfg.scopedSems0_V (Val := Elt F) d ((i 0).castLE hcore0) ((i 1).castLE hsub0), sems_split, bufs_split]
  iintro ⟨#Hlv, -, ⟨Hbv, Hdst, Hp, He⟩, ⟨⟨%fa, Ha⟩, ⟨%fb, Hb⟩, ⟨%fd, Hd⟩, ⟨%fe, Hv⟩, Hbufs⟩, ⟨Hs0, Hs1, Hs4, Hs5, Hsems⟩, HO⟩
  ihave #Hmw := (show levAts (K (F := F)).L (K (F := F)).lev ⊢ Transfers.MayWaits (thr d i) (none : HIx 1) O from
    (K (F := F)).mayWaits_none (thr := thr d i) hO) $$ Hlv
  ihave Hbv := (show (bvLoc d ↦{q} (X : Buf (Elt F) (bvLoc d)) : sProp 𝕄) ⊢ (bvW).view.loc (thr d i) ↦{q} (X : Buf (Elt F) ((bvW).view.loc (thr d i))) from .rfl) $$ Hbv
  ihave Hdst := (show (dstLoc d ↦{q} (Y : Buf (Elt F) (dstLoc d)) : sProp 𝕄) ⊢ (dstW).view.loc (thr d i) ↦{q} (Y : Buf (Elt F) ((dstW).view.loc (thr d i))) from .rfl) $$ Hdst
  ihave Ha := (show ((thr d i).loc cc0_scratch0 ↦{fullShare} fa : sProp 𝕄) ⊢ (accW).view.loc (thr d i) ↦{fullShare} fa from .rfl) $$ Ha
  ihave Hb := (show ((thr d i).loc cc0_scratch1 ↦{fullShare} fb : sProp 𝕄) ⊢ (bvsW).view.loc (thr d i) ↦{fullShare} fb from .rfl) $$ Hb
  ihave Hd := (show ((thr d i).loc cc0_scratch2 ↦{fullShare} fd : sProp 𝕄) ⊢ (dstsW).view.loc (thr d i) ↦{fullShare} fd from .rfl) $$ Hd
  simp only [cc0__sc_body_eq_skeleton]
  unfold cc0__sc_body_skel
  simp only [k0_part3_eq_skeleton]
  unfold k0_part3_skel
  sl_exec
  rw [wp_bind]
  sl_for (zeroed (F := F) d i) $$ [Ha]
  case region =>
    intro k _
    exact zero_trip d i k
  · unfold zeroed
    iexists _
    isplitr
    swap; · iexact Ha
    ipureintro
    intro j hj
    omega
  iintro %u Hz
  unfold zeroed
  icases Hz with ⟨%f, %hf, Ha⟩
  obtain rfl : f = fun _ => Scalar.ofBits .f32 0x00000000#32 := by
    funext j
    refine hf j ?_
    have h1 : Scf.trips k0_t1_loop.lb k0_t1_loop.ub k0_t1_loop.st = 6336 := trips1
    rw [h1]
    exact (j 0).isLt
  clear hf
  sl_exec
  sl_unfold_words
  rw [lo_eq i]
  sl_for (chunked d i q X Y O W) $$ [Hbv Hdst Ha Hb Hd Hs0 Hs1 HO]
  case region =>
    intro k e
    exact chunk_trip d i q X Y O W k e
  · unfold chunked
    isplitr; · iexact Hmw
    isplitl [Hbv]; · iexact Hbv
    isplitl [Hdst]; · iexact Hdst
    isplitl [Ha Hb Hd]
    · iexists fb, fd
      unfold scr
      isplitl [Ha]; · iexact Ha
      isplitl [Hb] <;> iassumption
    isplitl [Hs0]; · iexact Hs0
    isplitl [Hs1]; · iexact Hs1
    isplitl [HO]
    · iexists W
      isplitr
      swap; · iexact HO
      ipureintro
      intro p hp; exact .inl hp
    ipureintro; rfl
  iintro %e Hc
  have h2 : Scf.trips (k0_t2_loop i).lb (k0_t2_loop i).ub (k0_t2_loop i).st = chunks (i 1).val := trips2 i
  rw [h2]
  unfold chunked
  icases Hc with ⟨-, Hbv, Hdst, ⟨%bvb, %db, Hscr⟩, Hs0, Hs1, ⟨%W1, %hW1, HO⟩, %he⟩
  unfold scr
  icases Hscr with ⟨Ha, Hb, Hd⟩
  have hP : ∀ j ∈ rowOf 101376 (i 0).val (i 1).val, partials X Y j = (tile X Y (i 0).val (i 1).val (chunks (i 1).val)).1 (ix (j 2).val) := by
    intro j hj
    obtain ⟨h0, h1⟩ := mem_rowOf.mp hj
    unfold partials
    rw [h0, h1]
  have hE : ∀ j ∈ rowOf 16 (i 0).val (i 1).val, energies X Y j = k0_pay10 (tile X Y (i 0).val (i 1).val (chunks (i 1).val)).2 (ix (j 2).val) := by
    intro j hj
    obtain ⟨h0, h1⟩ := mem_rowOf.mp hj
    unfold energies
    rw [h0, h1]
  subst he
  generalize tile X Y (i 0).val (i 1).val (chunks (i 1).val) = st at hP hE ⊢
  sl_for0 (trips4 i)
  ihave Hp := (Entails.of_eq (show (pLoc d ↦[rowOf 101376 (i 0).val (i 1).val]{fullShare} (P0 : Buf (Elt F) (pLoc d)) : sProp 𝕄)
    = ((pRowK i).view.loc (thr d i) ↦[(pRowK i).view.set]{fullShare} (P0 : Buf (Elt F) (pLoc d))) from by rw [set_pRowK])) $$ Hp
  ihave He := (Entails.of_eq (show (eLoc d ↦[rowOf 16 (i 0).val (i 1).val]{fullShare} (E0 : Buf (Elt F) (eLoc d)) : sProp 𝕄)
    = ((eRowK i).view.loc (thr d i) ↦[(eRowK i).view.set]{fullShare} (E0 : Buf (Elt F) (eLoc d))) from by rw [set_eRowK])) $$ He
  ihave Hv := (show ((thr d i).loc cc0_scratch3 ↦{fullShare} fe : sProp 𝕄) ⊢ (evecW).view.loc (thr d i) ↦{fullShare} fe from .rfl) $$ Hv
  sl_exec (disch := first | exact View.amount_pos _ _ (show 0 < S101376.numel by decide) | exact View.amount_pos _ _ (show 0 < S16.numel by decide))
  sl_step
  isplitl [Hbv Hdst Hp He]
  · isplitl [Hbv]; · iexact Hbv
    isplitl [Hdst]; · iexact Hdst
    isplitl [Hp]
    · iapply (Entails.of_eq (pRow_written d i _ (partials X Y) st.1 (fun x => ?_) hP)) $$ Hp
      rw [View.read_writes_cons_hit (x := x)]
      · sl_unfold_words
        rfl
      · exact whole_emb x
    · iapply (Entails.of_eq (eRow_written d i _ (energies X Y) (k0_pay10 st.2) (fun x => ?_) hE)) $$ He
      rw [View.read_writes_cons_hit (x := x)]
      · sl_unfold_words
        show (evecW).view.read (Elt F) ((evecW).view.writes (Elt F) fe [⟨Rect.unit (s := S16) ![0] S16.size inb_S16_S16_0, k0_pay10 st.2⟩]) x = _
        refine View.read_writes_cons_hit_of_coords (evecW).view fe (Rect.unit (s := S16) ![0] S16.size inb_S16_S16_0) (k0_pay10 st.2) [] x x fun a => ?_
        obtain rfl : a = (0 : Fin 1) := Subsingleton.elim (α := Fin 1) _ _
        show (x 0).val = 0 + 1 * (x 0).val
        omega
      · exact whole_emb x
  isplitl [Ha Hb Hd Hv Hbufs]
  · isplitl [Ha]; · iexists _; iexact Ha
    isplitl [Hb]; · iexists _; iexact Hb
    isplitl [Hd]; · iexists _; iexact Hd
    isplitl [Hv]; · iexists _; iexact Hv
    iexact Hbufs
  isplitl [Hs0 Hs1 Hs4 Hs5 Hsems]
  · isplitl [Hs0]; · iexact Hs0
    isplitl [Hs1]; · iexact Hs1
    isplitl [Hs4]; · iexact Hs4
    isplitl [Hs5]; · iexact Hs5
    iexact Hsems
  iexists _; isplitr
  swap; · iexact HO
  ipureintro; intro p _
  rcases p.2 with _ | q
  · exact .inr (.inl rfl)
  · exact .inr (.inr (congrArg some (Subsingleton.elim q 0)))

end Cert.Proof.Tile

end
-- ==== Proof.Combine.lean ====
/-
  The TensorCore's call: per block of 512 lanes the body stores the two columns' results and, at the first point, the
  energy.
-/
module

public import proofs.«01_k».proof.Proof.Setup
public import proofs.«01_k».proof.Proof.Gen.KernelIdeal.Skeleton
public import proofs.«01_k».proof.Proof.Gen.KernelIdeal.Points
public import Idealize.ShloMosaic.Lib.Pipeline.RegionArrays
public import Idealize.ShloMosaic.Lib.Pipeline.Frame
public import Idealize.ShloMosaic.Lib.Pipeline.FrameBody
public import Idealize.ShloMosaic.Lib.Pipeline.Value
public import Idealize.ShloMosaic.Lib.Pipeline.ValueKit

@[expose] public section

noncomputable section

namespace Cert.Proof.Tile

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

/-- A memref's buffer on the TensorCore of `c`, whole. -/
abbrev held1 (c : Dev nD) {S : Shape} {e : EltTy} (M : Memref sig .tc .vmem S e) (f : Buf (Elt F) (M.view.loc (c : Thread nD τ))) : sProp 𝕄 :=
  M.view.loc (c : Thread nD τ) ↦{fullShare} f

/-- A load of the whole buffer reads the buffer. -/
theorem load_all {S : Shape} {e : EltTy} (M : Memref sig .tc .vmem S e) (off : Fin S.rank → ℕ) (ho : ∀ a, off a = 0) (inb : ∀ a, off a + S.size a ≤ S.size a)
    (f : M.view.ty.Contents (Elt F)) : M.view.readAt (Elt F) (Rect.unit off S.size inb).toLoadRect f = M.view.read (Elt F) f := by
  funext x
  rw [View.readAt_apply]
  show M.view.read (Elt F) f ((Rect.unit off S.size inb).emb x) = _
  congr 1
  funext a
  apply Fin.ext
  show off a + 1 * (x a).val = _
  rw [ho]; omega

/-- A store over the whole buffer leaves what it stores. -/
theorem store_all {S : Shape} {e : EltTy} (M : Memref sig .tc .vmem S e) (off : Fin S.rank → ℕ) (ho : ∀ a, off a = 0) (inb : ∀ a, off a + S.size a ≤ S.size a)
    (f : M.view.ty.Contents (Elt F)) (w : S.Idx → Elt F e) :
    M.view.read (Elt F) (M.view.writes (Elt F) f [⟨Rect.unit off S.size inb, w⟩]) = w := by
  funext x
  exact View.read_writes_cons_hit_of_coords M.view f (Rect.unit off S.size inb) w [] x x fun a => by
    show (x a).val = off a + 1 * (x a).val
    rw [ho]; omega

theorem zeros2 (a : Fin 2) : (![0, 0] : Fin 2 → ℕ) a = 0 := by fin_cases a <;> rfl

/-- The body at a point past the first: the energy's buffers are untouched. -/
theorem combine_later (c : Dev nD) (i : grid1.Coords) (hi : ¬ k1_cond1 i = 1#1)
    (M1 : Memref sig .tc .vmem S32x512 .f32) (h1 : M1.IsWhole) (M2 : Memref sig .tc .vmem S1x512 .f32) (h2 : M2.IsWhole)
    (M3 : Memref sig .tc .vmem S3x512 .f32) (h3 : M3.IsWhole) (M4 : Memref sig .tc .vmem S3x512 .f32) (h4 : M4.IsWhole)
    (M5 : Memref sig .tc .vmem S1x1 .f32) (h5 : M5.IsWhole)
    (f1 : Buf (Elt F) (M1.view.loc (c : Thread nD τ))) (f3 : Buf (Elt F) (M3.view.loc (c : Thread nD τ))) (f4 : Buf (Elt F) (M4.view.loc (c : Thread nD τ)))
    (Q : PUnit → sProp 𝕄) :
    iprop(held1 c M1 f1 ∗ held1 c M3 f3 ∗ held1 c M4 f4
        ∗ ((held1 c M1 f1 ∗ (∃ g, ⌜M3.view.read (Elt F) g = k1_pay1 (M1.view.read (Elt F) f1)⌝ ∗ held1 c M3 g)
            ∗ (∃ g, ⌜M4.view.read (Elt F) g = k1_pay2 (M1.view.read (Elt F) f1)⌝ ∗ held1 c M4 g)) -∗ Q ⟨⟩))
      ⊢ wp frame (wpE (defs₀ (F := F)) 𝒱₀ (c : Thread nD τ) none) Set.univ (cc1__combine_body i M1 h1 M2 h2 M3 h3 M4 h4 M5 h5) Q := by
  rw [cc1__combine_body_eq_skeleton]
  unfold cc1__combine_body_skel
  rw [dif_neg hi]
  iintro ⟨H1, H3, H4, Hk⟩
  sl_exec!
  sl_step
  iapply Hk
  isplitl [H1]; · iexact H1
  isplitl [H3]
  · iexists _; isplitr; swap; (· iexact H3)
    ipureintro
    sl_unfold_words
    rw [load_all M1 ![0, 0] zeros2]
    exact store_all M3 ![0, 0] zeros2 _ _ _
  iexists _; isplitr; swap; (· iexact H4)
  ipureintro
  sl_unfold_words
  rw [load_all M1 ![0, 0] zeros2]
  exact store_all M4 ![0, 0] zeros2 _ _ _

/-- The body at the first point: the energy is stored as well. -/
theorem combine_first (c : Dev nD) (i : grid1.Coords) (hi : k1_cond1 i = 1#1)
    (M1 : Memref sig .tc .vmem S32x512 .f32) (h1 : M1.IsWhole) (M2 : Memref sig .tc .vmem S1x512 .f32) (h2 : M2.IsWhole)
    (M3 : Memref sig .tc .vmem S3x512 .f32) (h3 : M3.IsWhole) (M4 : Memref sig .tc .vmem S3x512 .f32) (h4 : M4.IsWhole)
    (M5 : Memref sig .tc .vmem S1x1 .f32) (h5 : M5.IsWhole)
    (f1 : Buf (Elt F) (M1.view.loc (c : Thread nD τ))) (f2 : Buf (Elt F) (M2.view.loc (c : Thread nD τ)))
    (f3 : Buf (Elt F) (M3.view.loc (c : Thread nD τ))) (f4 : Buf (Elt F) (M4.view.loc (c : Thread nD τ))) (f5 : Buf (Elt F) (M5.view.loc (c : Thread nD τ)))
    (Q : PUnit → sProp 𝕄) :
    iprop(held1 c M1 f1 ∗ held1 c M2 f2 ∗ held1 c M3 f3 ∗ held1 c M4 f4 ∗ held1 c M5 f5
        ∗ ((held1 c M1 f1 ∗ held1 c M2 f2 ∗ (∃ g, ⌜M3.view.read (Elt F) g = k1_pay1 (M1.view.read (Elt F) f1)⌝ ∗ held1 c M3 g)
            ∗ (∃ g, ⌜M4.view.read (Elt F) g = k1_pay2 (M1.view.read (Elt F) f1)⌝ ∗ held1 c M4 g)
            ∗ (∃ g, ⌜M5.view.read (Elt F) g = k1_pay3 (M2.view.read (Elt F) f2)⌝ ∗ held1 c M5 g)) -∗ Q ⟨⟩))
      ⊢ wp frame (wpE (defs₀ (F := F)) 𝒱₀ (c : Thread nD τ) none) Set.univ (cc1__combine_body i M1 h1 M2 h2 M3 h3 M4 h4 M5 h5) Q := by
  rw [cc1__combine_body_eq_skeleton]
  unfold cc1__combine_body_skel
  rw [dif_pos hi]
  iintro ⟨H1, H2, H3, H4, H5, Hk⟩
  sl_exec!
  sl_step
  iapply Hk
  isplitl [H1]; · iexact H1
  isplitl [H2]; · iexact H2
  isplitl [H3]
  · iexists _; isplitr; swap; (· iexact H3)
    ipureintro
    sl_unfold_words
    rw [load_all M1 ![0, 0] zeros2]
    exact store_all M3 ![0, 0] zeros2 _ _ _
  isplitl [H4]
  · iexists _; isplitr; swap; (· iexact H4)
    ipureintro
    sl_unfold_words
    rw [load_all M1 ![0, 0] zeros2]
    exact store_all M4 ![0, 0] zeros2 _ _ _
  iexists _; isplitr; swap; (· iexact H5)
  ipureintro
  sl_unfold_words
  rw [load_all M2 ![0, 0] zeros2]
  exact store_all M5 ![0, 0] zeros2 _ _ _

/-! ## The region's data -/

variable (V : (c : Dev nD) → (b : Ref sig .tc) → Buf (Elt F) ((c : Thread nD τ).loc b))

abbrev t0 : Fin cfg1.N := ⟨0, by rw [show cfg1.N = 198 from N_1]; decide⟩

/-- The slab of partial sums at a point, and the row of energies. -/
abbrev slab (c : Dev nD) (t : Fin cfg1.N) : Vec F S32x512 .f32 := ((cfg1.win 0).blk t).view.read (Elt F) (V c main_v4)
abbrev erow (c : Dev nD) (t : Fin cfg1.N) : Vec F S1x512 .f32 := ((cfg1.win 1).blk t).view.read (Elt F) (V c main_v5)

def cdat (c : Dev nD) : Dat τ (Elt F) (HIx 1) ℕ UU ℕ cfg1 c where
  A w := V c (Pipeline.arrRef spec1 w)
  after w t := match w with
    | ⟨0, _⟩ => slab V c t
    | ⟨1, _⟩ => erow V c t
    | ⟨2, _⟩ => k1_pay1 (slab V c t)
    | ⟨3, _⟩ => k1_pay2 (slab V c t)
    | ⟨4, _⟩ => k1_pay3 (erow V c t0)
  Φ _ := BI.emp
  q _ := fullShare
  owed _ := 0

theorem before0 (c : Dev nD) (t : Fin cfg1.N) (d) : (cdat V c).before 0 t d = slab V c t :=
  ((cdat V c).before_fetched 0 t (fetch1_0 t) d).trans rfl

theorem before1 (c : Dev nD) (t : Fin cfg1.N) (d) : (cdat V c).before 1 t d = erow V c t :=
  ((cdat V c).before_in_eq_fetched 1 rfl (fun _ => rfl) (fun _ _ _ => rfl) (fun _ => rfl) t d).trans rfl

theorem cond1_iff (t : Fin cfg1.N) : k1_cond1 (grid1.coords t) = 1#1 ↔ t.val = 0 :=
  (by decide +kernel : ∀ t : Fin grid1.N, k1_cond1 (grid1.coords t) = 1#1 ↔ t.val = 0) t

theorem idle4 (t : Fin cfg1.N) : cfg1.idle 4 (cfg1.grid.coords t) = true ↔ t.val ≠ 0 := by
  rw [Ne, ← cond1_iff t]
  show (!(k1_cond1 (grid1.coords t) == 1#1)) = true ↔ _
  rw [Bool.not_eq_true', beq_eq_false_iff_ne]

theorem left_idle {cfg : Cfg sig Λ₀} {c : Dev nD} (dat : Dat τ (Elt F) (HIx 1) ℕ UU ℕ cfg c) (w : Fin cfg.W) (t : Fin cfg.N) (d)
    (h : cfg.idle w (cfg.grid.coords t) = true) : dat.left w t d = dat.before w t d := by
  unfold Dat.left; rw [h]

theorem left_live {cfg : Cfg sig Λ₀} {c : Dev nD} (dat : Dat τ (Elt F) (HIx 1) ℕ UU ℕ cfg c) (w : Fin cfg.W) (t : Fin cfg.N) (d)
    (h : cfg.idle w (cfg.grid.coords t) = false) : dat.left w t d = dat.kept w t d := by
  unfold Dat.left; rw [h]

/-- Past the first point the energy's buffer holds the energy. -/
theorem before4 (c : Dev nD) (d) : ∀ (n : ℕ) (h : n + 1 < cfg1.N), (cdat V c).before 4 ⟨n + 1, h⟩ d = k1_pay3 (erow V c t0)
  | n, h => by
    have hN : cfg1.N = 198 := N_1
    rw [(cdat V c).before_of_pos 4 ⟨n + 1, h⟩ (Nat.succ_ne_zero n) ((cfg1.win 4).fetch_out rfl _)]
    have hfl : ∀ h', ¬ (cfg1.win 4).flush ⟨n + 1 - 1, h'⟩ = true := fun h' => by
      rw [flush1_4]; show ¬ (n + 1 - 1) % 198 = 197; omega
    rw [if_neg (hfl _)]
    cases n with
    | zero =>
      rw [left_live _ 4 _ _ (by rw [← Bool.not_eq_true, idle4]; exact fun h => h rfl)]
      rfl
    | succ m =>
      rw [left_idle _ 4 _ _ (by rw [idle4]; exact Nat.succ_ne_zero m)]
      exact before4 c d m (Nat.lt_of_succ_lt h)

/-- A whole memref owned is its buffer held whole, at contents that read what is owned. -/
theorem owns_held (c : Dev nD) {S : Shape} {e : EltTy} (M : Memref sig .tc .vmem S e) (h : M.IsWhole) (X : S.Idx → Elt F e) :
    (owns (c : Thread nD τ) M fullShare X : sProp 𝕄) = iprop(∃ f, ⌜M.view.read (Elt F) f = X⌝ ∗ held1 c M f) := by
  unfold owns held1
  rw [h.set_eq_univ]

theorem combine_obligation (c : Dev nD) : BodyObligation (cdat V c) (defs₀ (F := F)) 𝒱₀ (none : HIx 1) Set.univ := fun t => by
  rw [bigSep_W1, bigSep_W1]
  rw [show (cdat V c).owesAt (none : HIx 1) t.succ = (cdat V c).owesAt (none : HIx 1) t.castSucc from rfl]
  rw [show (cdat V c).Φ t.succ = (cdat V c).Φ t.castSucc from rfl]
  change _ ⊢ wp _ _ _ (bodyAt1 t) _
  have hN : cfg1.N = 198 := N_1
  have e0 := fun X => owns_held (F := F) c (st1_0 t) (hstage1_0 ((cfg1.slots t 0).cast nbuf1_0)) X
  have e1 := fun X => owns_held (F := F) c (st1_1 t) (hstage1_1 ((cfg1.slots t 1).cast nbuf1_1)) X
  have e2 := fun X => owns_held (F := F) c (st1_2 t) (hstage1_2 ((cfg1.slots t 2).cast nbuf1_2)) X
  have e3 := fun X => owns_held (F := F) c (st1_3 t) (hstage1_3 ((cfg1.slots t 3).cast nbuf1_3)) X
  have e4 := fun X => owns_held (F := F) c (st1_4 t) (hstage1_4 ((cfg1.slots t 4).cast nbuf1_4)) X
  by_cases ht : t.val = 0
  · have hi : idle1 4 (grid1.coords t) = false := by
      have := (idle4 t).not.mpr (not_not.mpr ht); exact Bool.not_eq_true _ ▸ this
    have hc := (cond1_iff t).mpr ht
    simp only [hi]
    iintro ⟨HΦ, Howes, ⟨%d0, H0⟩, ⟨%d1, H1⟩, ⟨%d2, H2⟩, ⟨%d3, H3⟩, ⟨%d4, H4⟩⟩
    ihave H0 := (Entails.of_eq (e0 _)) $$ H0
    ihave H1 := (Entails.of_eq (e1 _)) $$ H1
    ihave H2 := (Entails.of_eq (e2 _)) $$ H2
    ihave H3 := (Entails.of_eq (e3 _)) $$ H3
    ihave H4 := (Entails.of_eq (e4 _)) $$ H4
    icases H0 with ⟨%f0, %h0, H0⟩
    icases H1 with ⟨%f1, %h1, H1⟩
    icases H2 with ⟨%f2, -, H2⟩
    icases H3 with ⟨%f3, -, H3⟩
    icases H4 with ⟨%f4, -, H4⟩
    rw [before0] at h0
    rw [before1] at h1
    iapply (combine_first c (grid1.coords t) hc (st1_0 t) (hstage1_0 ((cfg1.slots t 0).cast nbuf1_0)) (st1_1 t) (hstage1_1 ((cfg1.slots t 1).cast nbuf1_1))
      (st1_2 t) (hstage1_2 ((cfg1.slots t 2).cast nbuf1_2)) (st1_3 t) (hstage1_3 ((cfg1.slots t 3).cast nbuf1_3)) (st1_4 t) (hstage1_4 ((cfg1.slots t 4).cast nbuf1_4))
      f0 f1 f2 f3 f4 _)
    isplitl [H0]; · iexact H0
    isplitl [H1]; · iexact H1
    isplitl [H2]; · iexact H2
    isplitl [H3]; · iexact H3
    isplitl [H4]; · iexact H4
    rw [h0, h1]
    iintro ⟨H0, H1, ⟨%g2, %k2, H2⟩, ⟨%g3, %k3, H3⟩, ⟨%g4, %k4, H4⟩⟩
    isplitl [HΦ]; · iexact HΦ
    isplitl [Howes]; · iexact Howes
    isplitl [H0]
    · iapply (Entails.of_eq (e0 _).symm); iexists f0; isplitr; · ipureintro; exact h0
      iexact H0
    isplitl [H1]
    · iapply (Entails.of_eq (e1 _).symm); iexists f1; isplitr; · ipureintro; exact h1
      iexact H1
    isplitl [H2]
    · iapply (Entails.of_eq (e2 _).symm); iexists g2; isplitr; · ipureintro; exact k2
      iexact H2
    isplitl [H3]
    · iapply (Entails.of_eq (e3 _).symm); iexists g3; isplitr; · ipureintro; exact k3
      iexact H3
    iapply (Entails.of_eq (e4 _).symm); iexists g4; isplitr
    · ipureintro
      obtain rfl : t = t0 := Fin.ext ht
      exact k4
    iexact H4
  · have hi : idle1 4 (grid1.coords t) = true := (idle4 t).mpr ht
    have hc := (cond1_iff t).not.mpr ht
    simp only [hi]
    iintro ⟨HΦ, Howes, ⟨%d0, H0⟩, ⟨%d1, H1⟩, ⟨%d2, H2⟩, ⟨%d3, H3⟩, ⟨%d4, H4⟩⟩
    ihave H0 := (Entails.of_eq (e0 _)) $$ H0
    ihave H2 := (Entails.of_eq (e2 _)) $$ H2
    ihave H3 := (Entails.of_eq (e3 _)) $$ H3
    icases H0 with ⟨%f0, %h0, H0⟩
    icases H2 with ⟨%f2, -, H2⟩
    icases H3 with ⟨%f3, -, H3⟩
    rw [before0] at h0
    rw [before1]
    iapply (combine_later c (grid1.coords t) hc (st1_0 t) (hstage1_0 ((cfg1.slots t 0).cast nbuf1_0)) (st1_1 t) (hstage1_1 ((cfg1.slots t 1).cast nbuf1_1))
      (st1_2 t) (hstage1_2 ((cfg1.slots t 2).cast nbuf1_2)) (st1_3 t) (hstage1_3 ((cfg1.slots t 3).cast nbuf1_3)) (st1_4 t) (hstage1_4 ((cfg1.slots t 4).cast nbuf1_4))
      f0 f2 f3 _)
    isplitl [H0]; · iexact H0
    isplitl [H2]; · iexact H2
    isplitl [H3]; · iexact H3
    rw [h0]
    iintro ⟨H0, ⟨%g2, %k2, H2⟩, ⟨%g3, %k3, H3⟩⟩
    isplitl [HΦ]; · iexact HΦ
    isplitl [Howes]; · iexact Howes
    isplitl [H0]
    · iapply (Entails.of_eq (e0 _).symm); iexists f0; isplitr; · ipureintro; exact h0
      iexact H0
    isplitl [H1]; · iexact H1
    isplitl [H2]
    · iapply (Entails.of_eq (e2 _).symm); iexists g2; isplitr; · ipureintro; exact k2
      iexact H2
    isplitl [H3]
    · iapply (Entails.of_eq (e3 _).symm); iexists g3; isplitr; · ipureintro; exact k3
      iexact H3
    cases hf : (win1 4).flush t with
    | false => iexists d4; iexact H4
    | true =>
      have hb : (cdat V c).before 4 t d4 = (cdat V c).after 4 t := by
        obtain ⟨n, hn⟩ := t
        cases n with
        | zero => exact absurd rfl ht
        | succ n => exact before4 V c d4 n hn
      rw [hb]
      iexact H4

/-! ## What the region leaves in the three result arrays -/

/-- Block `n` of the partial sums. -/
def slabOf (P : S32x101376.Idx → F .f32) (n : ℕ) : Vec F S32x512 .f32 :=
  fun y => P (fun | 0 => y 0 | 1 => ⟨(512 * n + (y 1).val) % 101376, Nat.mod_lt _ (by decide)⟩ | ⟨_ + 2, h⟩ => absurd h (Nat.not_lt.2 (Nat.le_add_left _ _)))

/-- The index within its block of an element of a result. -/
def inBlk (j : S3x101376.Idx) : S3x512.Idx :=
  fun | 0 => j 0 | 1 => ⟨(j 1).val % 512, Nat.mod_lt _ (by decide)⟩ | ⟨_ + 2, h⟩ => absurd h (Nat.not_lt.2 (Nat.le_add_left _ _))

def forcesOf (P : S32x101376.Idx → F .f32) : S3x101376.Idx → F .f32 := fun j => k1_pay1 (slabOf P ((j 1).val / 512)) (inBlk j)
def analyticOf (P : S32x101376.Idx → F .f32) : S3x101376.Idx → F .f32 := fun j => k1_pay2 (slabOf P ((j 1).val / 512)) (inBlk j)
def energyOf (e : S1x512.Idx → F .f32) : S1x1.Idx → F .f32 := k1_pay3 e

theorem index_lane : ∀ t : Fin grid1.N, cc1_transform_0 (grid1.coords t) 1 = t.val ∧ cc1_transform_2 (grid1.coords t) 1 = t.val
    ∧ cc1_transform_3 (grid1.coords t) 1 = t.val := by decide +kernel

theorem slab_eq (c : Dev nD) (t : Fin cfg1.N) : slab V c t = slabOf (V c main_v4) t.val := by
  have hN : cfg1.N = 198 := N_1
  funext y
  unfold slab slabOf
  blk_simp
  congr 1
  funext a
  apply Fin.ext
  fin_cases a
  · show cc1_transform_0 (grid1.coords t) 0 * 32 + 1 * (y 0).val = (y 0).val
    show 0 * 32 + 1 * (y 0).val = (y 0).val
    omega
  · show cc1_transform_0 (grid1.coords t) 1 * 512 + 1 * (y 1).val = (512 * t.val + (y 1).val) % 101376
    have hy : (y 1).val < 512 := (y 1).isLt
    have ht := t.isLt
    rw [(index_lane t).1, Nat.mod_eq_of_lt (by omega)]
    omega

theorem erow_eq (c : Dev nD) (t : Fin cfg1.N) : erow V c t = V c main_v5 := by
  funext y
  unfold erow
  blk_simp
  congr 1
  funext a
  apply Fin.ext
  fin_cases a
  · show 0 * 1 + 1 * (y 0).val = (y 0).val
    omega
  · show 0 * 512 + 1 * (y 1).val = (y 1).val
    omega

/-- The element a block's index stands for: its block and its place there. -/
theorem lane2 (t : Fin cfg1.N) (y : S3x512.Idx) (j : S3x101376.Idx) (h0 : (j 0).val = 0 * 3 + 1 * (y 0).val) (h1 : (j 1).val = t.val * 512 + 1 * (y 1).val) :
    (j 1).val / 512 = t.val ∧ inBlk j = y := by
  have hy : (y 1).val < 512 := (y 1).isLt
  refine ⟨by omega, ?_⟩
  funext a
  apply Fin.ext
  fin_cases a
  · show (j 0).val = (y 0).val
    omega
  · show (j 1).val % 512 = (y 1).val
    omega

theorem left2 (c : Dev nD) : (cdat V c).arrAt 2 cfg1.N = forcesOf (V c main_v4) := by
  refine (cdat V c).arrAt_eq_of_covers 2 _ (by decide +kernel) fun t hf y => ?_
  blk_simp
  show k1_pay1 (slab V c t) y = _
  have h := lane2 t y ((win1_2.blk t).view.emb y) rfl (by
    show cc1_transform_2 (grid1.coords t) 1 * 512 + 1 * (y 1).val = _
    rw [(index_lane t).2.1])
  unfold forcesOf
  rw [h.1, h.2, slab_eq]

theorem left3 (c : Dev nD) : (cdat V c).arrAt 3 cfg1.N = analyticOf (V c main_v4) := by
  refine (cdat V c).arrAt_eq_of_covers 3 _ (by decide +kernel) fun t hf y => ?_
  blk_simp
  show k1_pay2 (slab V c t) y = _
  have h := lane2 t y ((win1_3.blk t).view.emb y) rfl (by
    show cc1_transform_3 (grid1.coords t) 1 * 512 + 1 * (y 1).val = _
    rw [(index_lane t).2.2])
  unfold analyticOf
  rw [h.1, h.2, slab_eq]

theorem left4 (c : Dev nD) : (cdat V c).arrAt 4 cfg1.N = energyOf (V c main_v5) := by
  refine (cdat V c).arrAt_eq_of_covers 4 _ (by decide +kernel) fun t hf y => ?_
  blk_simp
  show k1_pay3 (erow V c t0) y = _
  have h : (win1_4.blk t).view.emb y = y := by
    funext a
    apply Fin.ext
    fin_cases a
    · show 0 * 1 + 1 * (y 0).val = (y 0).val
      omega
    · show 0 * 1 + 1 * (y 1).val = (y 1).val
      omega
  rw [h, erow_eq]
  rfl

/-! ## The region -/

abbrev adm : (p : Fin 1) → (pcfgs (F := F) p).Adm := fun p => (cfgs p).toPCfg_adm

def pdats (p : Fin 1) (c : Dev nD) : Dat τ (Elt F) (HIx 1) ℕ UU ℕ (Pipeline.pin (pcfgs (F := F)) adm p) c := cdat V c

/-- A valuation with the region's results in their arrays. -/
def after1 (W : Valuation τ sig (Elt F)) : Valuation τ sig (Elt F) :=
  Function.update (Function.update (Function.update W (Proc.devRef .tc main_v6_0) (forcesOf (W (Proc.devRef .tc main_v4))))
    (Proc.devRef .tc main_v6_1) (analyticOf (W (Proc.devRef .tc main_v4)))) (Proc.devRef .tc main_v6_2) (energyOf (W (Proc.devRef .tc main_v5)))

set_option backward.isDefEq.respectTransparency.types false in
/-- The region: entered with its arrays at `W`, left with the results in them. -/
def region (W : Dev nD → Valuation τ sig (Elt F)) (R : Dev nD → sProp 𝕄) :
    Pipeline.RegionSeg (pcfgs (F := F)) adm (pdats fun c b => W c (Proc.devRef .tc b)) (none : HIx 1) defs₀ 𝒱₀ (K (F := F)).L (K (F := F)).lev 0 :=
  Pipeline.RegionSeg.ofHeld (pcfgs (F := F)) adm (pdats fun c b => W c (Proc.devRef .tc b)) (none : HIx 1) defs₀ 𝒱₀ (K (F := F)).L (K (F := F)).lev 0
    (fun _ => 0) (fun _ => BI.emp) (fun _ => BI.emp) launch1.toP rfl (fun c => (combine_obligation _ c).loose) (fun _ _ => rfl) (fun _ => rfl)
    (fun c => (pdats (fun c b => W c (Proc.devRef .tc b)) 0 c).share_full fun _ => rfl)
    (fun c => sep_elim_right) (fun c => by
      show (BI.emp : sProp 𝕄) ⊢ iprop(Pipeline.scopedRest spec1 c ∗ emp)
      rw [scopedRest1_eq]
      iintro H
      isplitl <;> iempintro)
    (fun _ => 0) ⟨fun _ _ _ => Finset.mem_univ _, fun _ _ _ => le_rfl, fun _ _ _ h => absurd h (lt_irrefl 0)⟩ R W (fun c => after1 (W c))
    (fun c w => rfl)
    (fun c w => by
      fin_cases w
      · exact ((cdat _ c).arrAt_in 0 rfl _).trans (by
          show _ = after1 (W c) (Proc.devRef .tc main_v4)
          unfold after1
          rw [Function.update_of_ne (by decide), Function.update_of_ne (by decide), Function.update_of_ne (by decide)]; rfl)
      · exact ((cdat _ c).arrAt_in 1 rfl _).trans (by
          show _ = after1 (W c) (Proc.devRef .tc main_v5)
          unfold after1
          rw [Function.update_of_ne (by decide), Function.update_of_ne (by decide), Function.update_of_ne (by decide)]; rfl)
      · refine (left2 _ c).trans ?_
        show _ = after1 (W c) (Proc.devRef .tc main_v6_0)
        unfold after1
        rw [Function.update_of_ne (by decide), Function.update_of_ne (by decide), Function.update_self]
      · refine (left3 _ c).trans ?_
        show _ = after1 (W c) (Proc.devRef .tc main_v6_1)
        unfold after1
        rw [Function.update_of_ne (by decide), Function.update_self]
      · refine (left4 _ c).trans ?_
        show _ = after1 (W c) (Proc.devRef .tc main_v6_2)
        unfold after1
        rw [Function.update_self])

end Cert.Proof.Tile

end
-- ==== Proof.Launch.lean ====
/-
  The SparseCore call as the launch theorem wants it: what the call hands each tile and takes back, the tile's obligation,
  the arrays split into the tiles' shares and rows, and the ghost state dealt at the launch.
-/
module

public import proofs.«01_k».proof.Proof.Tile
public import proofs.«01_k».proof.Proof.Combine
public import Idealize.ShloMosaic.Lib.ShareLeaves

@[expose] public section

noncomputable section

namespace Cert.Proof.Tile

open Cert.KernelIdeal Cert.KernelIdeal.Gen
open Idealize.ShloMosaic
open Idealize.ShloMosaic.StableHlo
open Idealize.ShloMosaic.SparseCore (S V T)
open Idealize.ShloMosaic.SparseCore.Cfg (HIx Pay)
open Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-! ## The arrays split among the tiles -/

/-- The share of the two inputs that tile `(c, s)` reads under: a leaf of the full share. -/
def shareOf (c s : ℕ) : PosShare TreeShare :=
  if h : c < 2 ^ 1 ∧ s < 2 ^ 4 then ShareLeaves.leaf 4 (ShareLeaves.leaf 1 fullShare ⟨c, h.1⟩) ⟨s, h.2⟩ else fullShare

theorem shareOf_eq (c : Fin (2 ^ 1)) (s : Fin (2 ^ 4)) :
    shareOf c.val s.val = ShareLeaves.leaf 4 (ShareLeaves.leaf 1 fullShare c) s := by
  unfold shareOf
  rw [dif_pos ⟨c.isLt, s.isLt⟩]

/-- An input read by every tile. -/
theorem read_split (ℓ : Loc nD τ sig) (f : Buf (Elt F) ℓ) :
    (ℓ ↦{fullShare} f : sProp 𝕄)
      = bigSep Finset.univ fun c : Fin 2 => bigSep Finset.univ fun s : Fin 16 => ℓ ↦{shareOf c.val s.val} f := by
  refine (ShareLeaves.pointsTo_leaves Finset.univ f 1 fullShare).trans ?_
  refine bigSep_congr (s := (Finset.univ : Finset (Fin 2))) fun c _ => ?_
  refine (ShareLeaves.pointsTo_leaves Finset.univ f 4 _).trans ?_
  refine bigSep_congr (s := (Finset.univ : Finset (Fin 16))) fun s _ => ?_
  rw [← shareOf_eq]

/-- The elements SparseCore `c` writes. -/
def slabOn (N c : ℕ) : Finset (⟨3, ![2, 16, N]⟩ : Shape).Idx := Finset.univ.filter fun j => (j 0).val = c

theorem slabOn_rows (N c : ℕ) : (Finset.univ : Finset (Fin 16)).biUnion (fun s => rowOf N c s.val) = slabOn N c := by
  ext j
  simp only [Finset.mem_biUnion, Finset.mem_univ, true_and, mem_rowOf, slabOn, Finset.mem_filter]
  exact ⟨fun ⟨_, h, _⟩ => h, fun h => ⟨⟨(j 1).val, (j 1).isLt⟩, h, rfl⟩⟩

theorem univ_slabs (N : ℕ) : (Finset.univ : Finset (Fin 2)).biUnion (fun c => slabOn N c.val) = Finset.univ := by
  ext j
  simp only [Finset.mem_biUnion, Finset.mem_univ, true_and, slabOn, Finset.mem_filter, iff_true]
  exact ⟨⟨(j 0).val, (j 0).isLt⟩, rfl⟩

theorem rows_disj (N c : ℕ) : ∀ s ∈ (Finset.univ : Finset (Fin 16)), ∀ s' ∈ (Finset.univ : Finset (Fin 16)), s ≠ s' →
    Disjoint (rowOf N c s.val) (rowOf N c s'.val) := fun s _ s' _ h => by
  rw [Finset.disjoint_left]
  intro j hj hj'
  rw [mem_rowOf] at hj hj'
  exact h (Fin.ext (hj.2.symm.trans hj'.2))

theorem slabs_disj (N : ℕ) : ∀ c ∈ (Finset.univ : Finset (Fin 2)), ∀ c' ∈ (Finset.univ : Finset (Fin 2)), c ≠ c' →
    Disjoint (slabOn N c.val) (slabOn N c'.val) := fun c _ c' _ h => by
  rw [Finset.disjoint_left]
  intro j hj hj'
  simp only [slabOn, Finset.mem_filter, Finset.mem_univ, true_and] at hj hj'
  exact h (Fin.ext (hj.symm.trans hj'))

theorem p_split (d : Dev nD) (f : S2x16x101376.Idx → F .f32) :
    (pLoc d ↦{fullShare} f : sProp 𝕄)
      = bigSep Finset.univ fun c : Fin 2 => bigSep Finset.univ fun s : Fin 16 => pLoc d ↦[rowOf 101376 c.val s.val]{fullShare} f := by
  have h : ∀ c : Fin 2, (pLoc d ↦[slabOn 101376 c.val]{fullShare} f : sProp 𝕄)
      = bigSep Finset.univ fun s : Fin 16 => pLoc d ↦[rowOf 101376 c.val s.val]{fullShare} f := fun c => by
    rw [← slabOn_rows]
    exact pointsTo_biUnion Finset.univ (ℓ := pLoc d) (fun s : Fin 16 => rowOf 101376 c.val s.val) (rows_disj _ _)
  rw [← bigSep_congr fun c _ => h c, ← pointsTo_biUnion Finset.univ (ℓ := pLoc d) (fun c : Fin 2 => slabOn 101376 c.val) (slabs_disj _), univ_slabs]

theorem e_split (d : Dev nD) (f : S2x16x16.Idx → F .f32) :
    (eLoc d ↦{fullShare} f : sProp 𝕄)
      = bigSep Finset.univ fun c : Fin 2 => bigSep Finset.univ fun s : Fin 16 => eLoc d ↦[rowOf 16 c.val s.val]{fullShare} f := by
  have h : ∀ c : Fin 2, (eLoc d ↦[slabOn 16 c.val]{fullShare} f : sProp 𝕄)
      = bigSep Finset.univ fun s : Fin 16 => eLoc d ↦[rowOf 16 c.val s.val]{fullShare} f := fun c => by
    rw [← slabOn_rows]
    exact pointsTo_biUnion Finset.univ (ℓ := eLoc d) (fun s : Fin 16 => rowOf 16 c.val s.val) (rows_disj _ _)
  rw [← bigSep_congr fun c _ => h c, ← pointsTo_biUnion Finset.univ (ℓ := eLoc d) (fun c : Fin 2 => slabOn 16 c.val) (slabs_disj _), univ_slabs]

/-- The four arrays are the tiles' shares and rows. -/
theorem call_split (X : S19200000.Idx → F .f32) (Y : S6400000.Idx → BitVec 32) (P0 : S2x16x101376.Idx → F .f32) (E0 : S2x16x16.Idx → F .f32) (d : Dev nD) :
    (iprop((bvLoc d ↦{fullShare} X) ∗ (dstLoc d ↦{fullShare} Y) ∗ (pLoc d ↦{fullShare} P0) ∗ eLoc d ↦{fullShare} E0) : sProp 𝕄)
      = bigSep Finset.univ fun c : Fin 2 => bigSep Finset.univ fun s : Fin 16 => given (shareOf c.val s.val) X Y P0 E0 d c.val s.val := by
  rw [read_split (bvLoc d) X, read_split (dstLoc d) Y, p_split, e_split]
  simp only [given, bigSep_sep']

/-! ## What the call carries -/

variable [FloatOps F] [Named F] (m : (ℓ : Loc nD τ sig) → Buf (Elt F) ℓ) (ρ : Dev nD → PrngReg)

/-- The host's operations before the call. -/
abbrev op0 : HloOp τ sig (Elt F) := StableHlo.reshape main_arg0 main_v0 (rfl : (.f32 : EltTy) = .f32) shapeCasts_S6400000x3_S19200000
abbrev op1 : HloOp τ sig (Elt F) := StableHlo.unary main_arg1 main_v1 ((extractStridedSlice S1x6400000 ![1, 0] · slices_S2x6400000_S1x6400000_1_0) : (⟨S2x6400000, .i32⟩ : BufTy).Contents (Elt F) → (⟨S1x6400000, .i32⟩ : BufTy).Contents (Elt F))
abbrev op2 : HloOp τ sig (Elt F) := StableHlo.reshape main_v1 main_v2 (rfl : (.i32 : EltTy) = .i32) shapeCasts_S1x6400000_S6400000

/-- The arrays at the launch, and as the call finds them. -/
def V0 (d : Dev nD) : Valuation τ sig (Elt F) := fun b => m (d, b)
def VA (d : Dev nD) : Valuation τ sig (Elt F) := op2.result (op1.result (op0.result (V0 m d)))

abbrev bvA (d : Dev nD) : S19200000.Idx → F .f32 := VA m d (Proc.devRef .tc main_v0)
abbrev dstA (d : Dev nD) : S6400000.Idx → BitVec 32 := VA m d (Proc.devRef .tc main_v2)
abbrev pA (d : Dev nD) : S2x16x101376.Idx → F .f32 := VA m d (Proc.devRef .tc main_v3_0)
abbrev eA (d : Dev nD) : S2x16x16.Idx → F .f32 := VA m d (Proc.devRef .tc main_v3_1)

/-- Tile `(c, s)`'s part before the call, and after it. -/
abbrev before (d : Dev nD) (c s : ℕ) : sProp 𝕄 := given (shareOf c s) (bvA m d) (dstA m d) (pA m d) (eA m d) d c s
abbrev behind (d : Dev nD) (c s : ℕ) : sProp 𝕄 :=
  given (shareOf c s) (bvA m d) (dstA m d) (partials (bvA m d) (dstA m d)) (energies (bvA m d) (dstA m d)) d c s

def P : (K (F := F)).Pay (N := 1) (nD := nD) (Val := Elt F) (Name := ℕ) (U := UU) where
  st := fun q d c => bigSep Finset.univ fun i : Fin ((K (F := F)).nSub q) => before m d c.val i.val
  dn := fun q d c => bigSep Finset.univ fun i : Fin ((K (F := F)).nSub q) => behind m d c.val i.val
  go := fun _ d c i => before m d c.val i.val
  td := fun _ d c i => behind m d c.val i.val
  x := fun _ _ => iprop(emp)

instance P_storable : (P (F := F) m).IsStorable where
  st q d c := (inferInstance : BI.Storable (upEmb : UEmb _ 𝕄) (bigSep Finset.univ fun i : Fin ((K (F := F)).nSub q) => before m d c.val i.val))
  dn q d c := (inferInstance : BI.Storable (upEmb : UEmb _ 𝕄) (bigSep Finset.univ fun i : Fin ((K (F := F)).nSub q) => behind m d c.val i.val))
  go _ d c i := (inferInstance : BI.Storable (upEmb : UEmb _ 𝕄) (before m d c.val i.val))
  td _ d c i := (inferInstance : BI.Storable (upEmb : UEmb _ 𝕄) (behind m d c.val i.val))

/-! ## The obligation of a tile -/

def coordsV (c : Fin (grid0.bound 0)) (s : Fin (grid0.bound 1)) : grid0.Coords :=
  fun | 0 => c | 1 => s | ⟨_ + 2, h⟩ => absurd h (Nat.not_lt.2 (Nat.le_add_left _ _))

local notation "bvW" => (Memref.whole Cert.KernelIdeal.main_v0_scv : Memref Cert.KernelIdeal.sig Kind.scVector Space.hbm Cert.KernelIdeal.S19200000 EltTy.f32)
local notation "dstW" => (Memref.whole Cert.KernelIdeal.main_v2_scv : Memref Cert.KernelIdeal.sig Kind.scVector Space.hbm Cert.KernelIdeal.S6400000 EltTy.i32)
local notation "pW" => (Memref.whole Cert.KernelIdeal.main_v3_0_scv : Memref Cert.KernelIdeal.sig Kind.scVector Space.hbm Cert.KernelIdeal.S2x16x101376 EltTy.f32)
local notation "eW" => (Memref.whole Cert.KernelIdeal.main_v3_1_scv : Memref Cert.KernelIdeal.sig Kind.scVector Space.hbm Cert.KernelIdeal.S2x16x16 EltTy.f32)
local notation "accW" => (Memref.whole Cert.KernelIdeal.cc0_scratch0 : Memref Cert.KernelIdeal.sig Kind.scVector Space.vmem Cert.KernelIdeal.S101376 EltTy.f32)
local notation "bvsW" => (Memref.whole Cert.KernelIdeal.cc0_scratch1 : Memref Cert.KernelIdeal.sig Kind.scVector Space.vmem Cert.KernelIdeal.S9600 EltTy.f32)
local notation "dstsW" => (Memref.whole Cert.KernelIdeal.cc0_scratch2 : Memref Cert.KernelIdeal.sig Kind.scVector Space.vmem Cert.KernelIdeal.S3200 EltTy.i32)
local notation "evecW" => (Memref.whole Cert.KernelIdeal.cc0_scratch3 : Memref Cert.KernelIdeal.sig Kind.scVector Space.vmem Cert.KernelIdeal.S16 EltTy.f32)

theorem defs₀_vector (c : Fin τ.nSC) (s : Fin τ.nSub) :
    defs₀ (F := F) (.scVector c s) 0 ()
      = SparseCore.onTile hcore0 hsub0 (fun c s => cc0__sc_body (coordsV c s)
          bvW (Memref.isWhole_whole _) dstW (Memref.isWhole_whole _) pW (Memref.isWhole_whole _) eW (Memref.isWhole_whole _)
          accW (Memref.isWhole_whole _) bvsW (Memref.isWhole_whole _) dstsW (Memref.isWhole_whole _) evecW (Memref.isWhole_whole _)
          cc0_scoped0 cc0_scoped1 cc0_scoped2 cc0_scoped3 cc0_scoped4 cc0_scoped5) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) (shareOf c.val i.val) (bvA m d) (dstA m d) (pA m d) (eA m d) hF O W hO

theorem vecSplit : (K (F := F)).VecSplit' (P m) 0 := by
  intro d c
  show (bigSep Finset.univ fun i : Fin ((K (F := F)).nSub 0) => before m d c.val i.val) ⊢ |={Set.univ}=> iprop(
    (bigSep Finset.univ fun i : Fin ((K (F := F)).nSub 0) => before m d c.val i.val)
      ∗ ((bigSep Finset.univ fun i : Fin ((K (F := F)).nSub 0) => behind m d c.val i.val)
        -∗ (bigSep Finset.univ fun i : Fin ((K (F := F)).nSub 0) => behind m d c.val i.val)))
  iintro H
  imodintro
  isplitl [H]; · iexact H
  iintro H
  iexact H

/-- What the call takes for all tiles, and what it hands back. -/
theorem st_eq (d : Dev nD) :
    (bigSep Finset.univ fun c : Fin ((K (F := F)).nCore 0) => (P m).st 0 d c)
      = iprop((bvLoc d ↦{fullShare} bvA m d) ∗ (dstLoc d ↦{fullShare} dstA m d) ∗ (pLoc d ↦{fullShare} pA m d) ∗ eLoc d ↦{fullShare} eA m d) :=
  (call_split _ _ _ _ d).symm
theorem dn_eq (d : Dev nD) :
    (bigSep Finset.univ fun c : Fin ((K (F := F)).nCore 0) => (P m).dn 0 d c)
      = iprop((bvLoc d ↦{fullShare} bvA m d) ∗ (dstLoc d ↦{fullShare} dstA m d) ∗ (pLoc d ↦{fullShare} partials (bvA m d) (dstA m d))
          ∗ eLoc d ↦{fullShare} energies (bvA m d) (dstA m d)) :=
  (call_split _ _ _ _ d).symm

/-! ## The ghost state dealt at the launch -/

abbrev pinned : Fin 1 → Pipeline.Cfg sig Λ₀ := Pipeline.pin (pcfgs (F := F)) adm

theorem pin_inj : Function.Injective (Pipeline.cellOf (nD := nD) (τ := τ) (pinned (F := F))) := cellOf_inj

def u₀ : UU :=
  (initOf (K (F := F)).hsCells (K (F := F)).hsToks,
    (initOf (Pipeline.cells (pinned (F := F)) (pin_inj (F := F))) (Pipeline.launchToks (pinned (F := F)) (pin_inj (F := F))), 1))

/-- What @main on a TensorCore is dealt: its pipeline's cells and tokens. -/
def G (d : Dev nD) : sProp 𝕄 :=
  iprop(Pipeline.cellsGhost (pinned (F := F)) (EP (F := F)) 0 d ∗ Pipeline.toksInit (pinned (F := F)) (EP (F := F)) 0 d)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HP⟩
  ihave H := (own_pair_emb (embR : Emb UP 𝕄) _ _) $$ HP
  icases H with ⟨HP, -⟩
  imod (Pipeline.fund_ghost (pinned (F := F)) (EP (F := F)) (pin_inj (F := F))) $$ HP with ⟨Hg, Ht⟩
  imodintro
  isplitl [HH]; · iexact HH
  isplitl [Hg Ht]
  · have hg : ∀ Φ : Fin 1 → Dev nD → sProp 𝕄, (bigSep Finset.univ fun c : Dev nD => bigSep Finset.univ fun p : Fin 1 => Φ p c)
        = bigSep Finset.univ fun c : Dev nD => Φ 0 c := fun Φ => bigSep_congr fun c _ => bigSep_univ_of_subsingleton (0 : Fin 1)
    unfold G
    rw [bigSep_sep']
    ihave Hg := (Entails.of_eq (hg fun p c => Pipeline.cellsGhost (pinned (F := F)) (EP (F := F)) p c)) $$ Hg
    ihave Ht := (Entails.of_eq (hg fun p c => Pipeline.toksInit (pinned (F := F)) (EP (F := F)) p c)) $$ Ht
    isplitl [Hg] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), show (bigSep Finset.univ fun _ : Thread nD τ => (iprop(emp) : sProp 𝕄)) = iprop(emp) from bigSep_emp_const _]
  iempintro

end Cert.Proof.Tile

end
-- ==== Proof.Run.lean ====
/-
  The run of the whole program, once, at any number type: @main on the TensorCore — the host's reshapes, the SparseCore
  call, the combining region, the host's last reshapes — and what every final state then holds.
-/
module

public import proofs.«01_k».proof.Proof.Launch

@[expose] public section

noncomputable section

namespace Cert.Proof.Tile

open Cert.KernelIdeal Cert.KernelIdeal.Gen
open Idealize.ShloMosaic
open Idealize.ShloMosaic.StableHlo
open Idealize.ShloMosaic.Pipeline (ucRefs arrRefs)
open Idealize.ShloMosaic.SparseCore (S V T)
open Idealize.ShloMosaic.SparseCore.Cfg (HIx Pay)
open Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F] [Named F] (m : (ℓ : Loc nD τ sig) → Buf (Elt F) ℓ) (ρ : Dev nD → PrngReg)

/-! ## The host's operations and the arrays after each stage -/

abbrev op4 : HloOp τ sig (Elt F) := StableHlo.reshape main_v3_0 main_v4 (rfl : (.f32 : EltTy) = .f32) shapeCasts_S2x16x101376_S32x101376
abbrev op5 : HloOp τ sig (Elt F) := StableHlo.reshape main_v3_1 main_v5 (rfl : (.f32 : EltTy) = .f32) shapeCasts_S2x16x16_S1x512
abbrev op7 : HloOp τ sig (Elt F) := StableHlo.reshape main_v6_0 main_v7 (rfl : (.f32 : EltTy) = .f32) shapeCasts_S3x101376_S304128
abbrev op8 : HloOp τ sig (Elt F) := StableHlo.unary main_v7 main_v8 ((extractStridedSlice S300000 ![0] · slices_S304128_S300000_0) : (⟨S304128, .f32⟩ : BufTy).Contents (Elt F) → (⟨S300000, .f32⟩ : BufTy).Contents (Elt F))
abbrev op9 : HloOp τ sig (Elt F) := StableHlo.reshape main_v8 main_v9 (rfl : (.f32 : EltTy) = .f32) shapeCasts_S300000_S100000x3
abbrev op10 : HloOp τ sig (Elt F) := StableHlo.reshape main_v6_1 main_v10 (rfl : (.f32 : EltTy) = .f32) shapeCasts_S3x101376_S304128
abbrev op11 : HloOp τ sig (Elt F) := StableHlo.unary main_v10 main_v11 ((extractStridedSlice S300000 ![0] · slices_S304128_S300000_0) : (⟨S304128, .f32⟩ : BufTy).Contents (Elt F) → (⟨S300000, .f32⟩ : BufTy).Contents (Elt F))
abbrev op12 : HloOp τ sig (Elt F) := StableHlo.reshape main_v11 main_v12 (rfl : (.f32 : EltTy) = .f32) shapeCasts_S300000_S100000x3
abbrev op13 : HloOp τ sig (Elt F) := StableHlo.reshape main_v6_2 main_v13 (rfl : (.f32 : EltTy) = .f32) shapeCasts_S1x1_S_

/-- After the SparseCore call; after the two reshapes; after the region; at the end. -/
def VB (d : Dev nD) : Valuation τ sig (Elt F) :=
  Function.update (Function.update (VA m d) (Proc.devRef .tc main_v3_0) (partials (bvA m d) (dstA m d)))
    (Proc.devRef .tc main_v3_1) (energies (bvA m d) (dstA m d))
def VC (d : Dev nD) : Valuation τ sig (Elt F) := op5.result (op4.result (VB m d))
def VD (d : Dev nD) : Valuation τ sig (Elt F) := after1 (VC m d)
def VE (d : Dev nD) : Valuation τ sig (Elt F) :=
  op13.result (op12.result (op11.result (op10.result (op9.result (op8.result (op7.result (VD m d)))))))

/-- The four arrays of the SparseCore call. -/
abbrev S4 : Finset (DevRef τ sig) :=
  {Proc.devRef .tc main_v0, Proc.devRef .tc main_v2, Proc.devRef .tc main_v3_0, Proc.devRef .tc main_v3_1}

theorem mem_uc (r : Ref sig .tc) (h : (Proc.devRef .tc r : DevRef τ sig).isScoped = false) : (Proc.devRef .tc r : DevRef τ sig) ∈ ucRefs τ sig :=
  Finset.mem_filter.mpr ⟨StableHlo.devRef_mem_tcRefs _, fun h' => Bool.false_ne_true (h.symm.trans h')⟩

theorem S4_sub : S4 ⊆ ucRefs τ sig := by
  intro b hb
  simp only [S4, Finset.mem_insert, Finset.mem_singleton] at hb
  rcases hb with rfl | rfl | rfl | rfl <;> exact mem_uc _ rfl

theorem held_S4 (d : Dev nD) (W : Valuation τ sig (Elt F)) :
    (held (T d) S4 W : sProp 𝕄)
      = iprop((bvLoc d ↦{fullShare} W (Proc.devRef .tc main_v0)) ∗ (dstLoc d ↦{fullShare} W (Proc.devRef .tc main_v2))
          ∗ (pLoc d ↦{fullShare} W (Proc.devRef .tc main_v3_0)) ∗ eLoc d ↦{fullShare} W (Proc.devRef .tc main_v3_1)) := by
  unfold held S4
  rw [SparseCore.bigSep_insert' (by decide), SparseCore.bigSep_insert' (by decide), SparseCore.bigSep_insert' (by decide), bigSep_singleton]

theorem VB_bv (d : Dev nD) : VB m d (Proc.devRef .tc main_v0) = bvA m d := by
  unfold VB
  rw [Function.update_of_ne (by decide), Function.update_of_ne (by decide)]
theorem VB_dst (d : Dev nD) : VB m d (Proc.devRef .tc main_v2) = dstA m d := by
  unfold VB
  rw [Function.update_of_ne (by decide), Function.update_of_ne (by decide)]
theorem VB_p (d : Dev nD) : VB m d (Proc.devRef .tc main_v3_0) = partials (bvA m d) (dstA m d) := by
  unfold VB
  rw [Function.update_of_ne (by decide), Function.update_self]
theorem VB_e (d : Dev nD) : VB m d (Proc.devRef .tc main_v3_1) = energies (bvA m d) (dstA m d) := by
  unfold VB
  rw [Function.update_self]

/-- Off the four arrays the call changes nothing, -/
theorem VB_rest (d : Dev nD) : ∀ b ∈ ucRefs τ sig \ S4, VA m d b = VB m d b := fun b hb => by
  have hb' := (Finset.mem_sdiff.mp hb).2
  unfold VB
  rw [Function.update_of_ne, Function.update_of_ne]
  · rintro rfl; exact hb' (by simp [S4])
  · rintro rfl; exact hb' (by simp [S4])

theorem arr_mem (w : Fin 5) : (Proc.devRef .tc (Pipeline.arrRef spec1 w) : DevRef τ sig) ∈ arrRefs (τ := τ) spec1 :=
  Finset.mem_map.mpr ⟨_, Finset.mem_image.mpr ⟨w, Finset.mem_univ _, rfl⟩, rfl⟩

/-- and off its own arrays the region changes nothing. -/
theorem VD_rest (d : Dev nD) : ∀ b ∈ ucRefs τ sig \ arrRefs (τ := τ) spec1, VC m d b = VD m d b := fun b hb => by
  have hb' := (Finset.mem_sdiff.mp hb).2
  unfold VD after1
  rw [Function.update_of_ne, Function.update_of_ne, Function.update_of_ne]
  · rintro rfl; exact hb' (arr_mem 2)
  · rintro rfl; exact hb' (arr_mem 3)
  · rintro rfl; exact hb' (arr_mem 4)

theorem arr_sub : arrRefs (τ := τ) spec1 ⊆ ucRefs τ sig := Pipeline.arrRefs_sub_ucRefs spec1 (by decide)

/-- Every recorded wait of a program of one call lies below the end of it. -/
theorem below_end (d : Dev nD) (W : Waits sig (HIx 1)) : (K (F := F)).WBelow (T d) W (8 * 1) := fun p _ => by
  rcases p with ⟨g, _ | q⟩
  · rw [SparseCore.Cfg.lev_none]; omega
  · exact ((K (F := F)).lev_some_le _ q).trans (by have := q.isLt; omega)

/-- What @main leaves: every array at its final contents. -/
abbrev FIN (d : Dev nD) : sProp 𝕄 := held (T d) (ucRefs τ sig) (VE m d)

/-- A host operation of @main, over all the arrays. -/
theorem host_op {op : HloOp τ sig (Elt F)} (hop : op.bufs ⊆ tcRefs τ sig) (hf : op.fresh = ∅) (d : Dev nD) (W : Valuation τ sig (Elt F)) (Q : PUnit → sProp 𝕄) :
    iprop(boundary (T d) ∗ held (T d) (ucRefs τ sig) W ∗ (iprop(boundary (T d) ∗ held (T d) (ucRefs τ sig) (op.result W)) -∗ Q ⟨⟩))
      ⊢ wp frame (wpE ((K (F := F)).defs (D (F := F))) 𝒱 (T d) none) Set.univ (hlo rfl op (fun _ => .ret ⟨⟩)) Q := by
  iintro ⟨Hb, Hh, Hk⟩
  iapply (wp_hlo_within 𝒱 (T d) none Set.univ (op := op) (S := ucRefs τ sig) (Pipeline.sub_ucRefs op hop) (V := W) (hf := hf)) $$ [Hb Hh]
  · isplitl [Hb] <;> iassumption
  iintro H
  rw [wp_ret]; imodintro
  iapply Hk; iexact H

theorem region_pre (R : Dev nD → sProp 𝕄) (d : Dev nD) :
    (region (VC m) R).pre d = iprop(held (T d) (arrRefs (τ := τ) spec1) (VC m d) ∗ emp ∗ R d ∗ ∃ Wd, owes (T d) 0 Wd) := by
  unfold region Pipeline.RegionSeg.ofHeld
  rfl
theorem region_post (R : Dev nD → sProp 𝕄) (d : Dev nD) :
    (region (VC m) R).post d = iprop(held (T d) (arrRefs (τ := τ) spec1) (VD m d) ∗ emp ∗ R d ∗ ∃ Wd, owes (T d) 0 Wd) := by
  unfold region Pipeline.RegionSeg.ofHeld VD
  rfl

set_option backward.isDefEq.respectTransparency.types false in
theorem region_wp [∀ e, Nonempty (Elt F e)] (W : Dev nD → Valuation τ sig (Elt F))
    (R : Pipeline.RegionSeg (pcfgs (F := F)) adm (pdats fun c b => W c (Proc.devRef .tc b)) (none : HIx 1) defs₀ 𝒱₀ (K (F := F)).L (K (F := F)).lev 0)
    (d : Dev nD) (Q : PUnit → sProp 𝕄) :
    iprop((iprop(boundary (T d) ∗ R.post d) -∗ wp frame (wpE (D (F := F)) 𝒱 (T d) none) Set.univ (.ret ⟨⟩) Q)
        ∗ boundary (T d) ∗ R.pre d ∗ levAts (K (F := F)).L (K (F := F)).lev
        ∗ Pipeline.cellsGhost (pinned (F := F)) (EP (F := F)) 0 d ∗ Pipeline.toksInit (pinned (F := F)) (EP (F := F)) 0 d)
      ⊢ wp frame (wpE (D (F := F)) 𝒱 (T d) none) Set.univ (.op (.customCall (Pipeline.entry 0) ()) .ret) Q :=
  Pipeline.RegionSeg.wp (pcfgs (F := F)) adm (pdats fun c b => W c (Proc.devRef .tc b)) (none : HIx 1)
    (pin_inj (F := F)) (EP (F := F)) defs₀ 𝒱₀ (K (F := F)).L (K (F := F)).lev R d none (fun u h => nomatch h) .ret Q

theorem lifted_entry :
    SparseCore.liftProg (Q := 1) (.op (.customCall (Pipeline.entry 0) ()) .ret : Prog (TpuEff nD τ sig (Elt F) (ΛP (F := F)) .tc) PUnit)
      = Prog.lift (.customCall (SparseCore.inner (Pipeline.entry 0)) ()) := rfl

/-- The region, from @main. -/
theorem region_call [∀ e, Nonempty (Elt F e)] (κ : GSem nD τ sig → ℕ) (d : Dev nD) (Q : PUnit → sProp 𝕄) :
    iprop((K (F := F)).ctx EH (P m) κ ∗ (K (F := F)).tcSt EH d 1 ∗ boundary (T d) ∗ held (T d) (ucRefs τ sig) (VC m d) ∗ G (F := F) d
        ∗ (iprop((K (F := F)).tcSt EH d 1 ∗ boundary (T d) ∗ held (T d) (ucRefs τ sig) (VD m d)) -∗ Q ⟨⟩))
      ⊢ wp frame (wpE ((K (F := F)).defs (D (F := F))) 𝒱 (T d) none) Set.univ
          (Prog.lift (.customCall (SparseCore.inner (Pipeline.entry 0)) ())) Q := by
  rw [← lifted_entry]
  refine BI.BIBase.Entails.trans ?_ ((K (F := F)).wp_liftProg (D (F := F)) 𝒱 (T d) Set.univ none _ _)
  refine BI.BIBase.Entails.trans ?_ (region_wp (VC m) (region (VC m) fun c => held (T c) (ucRefs τ sig \ arrRefs (τ := τ) spec1) (VC m c)) d Q)
  rw [region_pre, region_post]
  unfold SparseCore.Cfg.tcSt G
  rw [held_sub_split (T d) arr_sub (VC m d), (K (F := F)).Otc_end d (le_refl 1), held_sub_split (T d) arr_sub (VD m d),
    ← held_congr (T d) (VD_rest m d)]
  iintro ⟨#Hctx, ⟨⟨%W, -, HO⟩, Hst⟩, Hb, ⟨Ha, Hr⟩, ⟨Hg, Ht⟩, Hk⟩
  ihave Hlev := ((K (F := F)).ctx_levAts κ) $$ Hctx
  isplitl [Hst Hk]
  · iintro ⟨Hb, Ha, -, Hr, %Wd, HO⟩
    rw [wp_ret]; imodintro
    iapply Hk
    isplitl [Hst HO]
    · isplitl [HO]
      · iexists Wd
        isplitr; · ipureintro; exact below_end d Wd
        iexact HO
      iexact Hst
    isplitl [Hb]; · iexact Hb
    isplitl [Ha] <;> iassumption
  isplitl [Hb]; · iexact Hb
  isplitl [Ha Hr HO]
  · isplitl [Ha]; · iexact Ha
    isplitr; · iempintro
    isplitl [Hr]; · iexact Hr
    iexists W; iexact HO
  isplitl [Hlev]; · iexact Hlev
  isplitl [Hg] <;> iassumption

/-- The SparseCore call, from @main. -/
theorem sc_call (κ : GSem nD τ sig → ℕ) (d : Dev nD) (Q : PUnit → sProp 𝕄) :
    iprop((K (F := F)).ctx EH (P m) κ ∗ (K (F := F)).tcSt EH d 0 ∗ held (T d) (ucRefs τ sig) (VA m d)
        ∗ (iprop((K (F := F)).tcSt EH d 1 ∗ held (T d) (ucRefs τ sig) (VB m d)) -∗ Q ⟨⟩))
      ⊢ wp frame (wpE ((K (F := F)).defs (D (F := F))) 𝒱 (T d) none) Set.univ ((K (F := F)).run d 0) Q := by
  rw [held_sub_split (T d) S4_sub (VA m d), held_sub_split (T d) S4_sub (VB m d), held_S4, held_S4, VB_bv, VB_dst, VB_p, VB_e,
    ← held_congr (T d) (VB_rest m d)]
  iintro ⟨#Hctx, Hst, ⟨Hh, Hr⟩, Hk⟩
  iapply ((K (F := F)).wp_run (D (F := F)) 𝒱 (EH := EH) (P := P m) κ d 0) $$ [Hst Hh Hr Hk]
  isplitr; · iexact Hctx
  isplitl [Hst]; · iexact Hst
  isplitl [Hh]
  · rw [st_eq]; iexact Hh
  iintro ⟨Hst, Hdn⟩
  ihave Hdn := (Entails.of_eq (dn_eq m d)) $$ Hdn
  iapply Hk
  isplitl [Hst]; · iexact Hst
  isplitl [Hdn] <;> iassumption

/-- @main on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  have hu : (unscopedBufs d (fun b => m ((SparseCore.T d).loc b)) : sProp 𝕄) = held (T d) (ucRefs τ sig) (V0 m d) :=
    Pipeline.unscopedBufs_held d (V0 m d)
  rw [hu]
  simp only [main, wp_bind, wp_pure]
  iintro ⟨#Hctx, Hst, ⟨Hb, Hh, Hts, -⟩, HG⟩
  iapply (host_op (op := op0) (reshape_bufs_sub _ _ _ _ _ _) rfl d) $$ [Hb Hh Hst Hts HG]
  isplitl [Hb]; · iexact Hb
  isplitl [Hh]; · iexact Hh
  iintro ⟨Hb, Hh⟩
  iapply (host_op (op := op1) (unary_bufs_sub _ _ _ _ _) rfl d) $$ [Hb Hh Hst Hts HG]
  isplitl [Hb]; · iexact Hb
  isplitl [Hh]; · iexact Hh
  iintro ⟨Hb, Hh⟩
  iapply (host_op (op := op2) (reshape_bufs_sub _ _ _ _ _ _) rfl d) $$ [Hb Hh Hst Hts HG]
  isplitl [Hb]; · iexact Hb
  isplitl [Hh]; · iexact Hh
  iintro ⟨Hb, Hh⟩
  iapply (sc_call m κ d) $$ [Hb Hh Hst Hts HG]
  isplitr; · iexact Hctx
  isplitl [Hst]; · iexact Hst
  isplitl [Hh]; · iexact Hh
  iintro ⟨Hst, Hh⟩
  iapply (host_op (op := op4) (reshape_bufs_sub _ _ _ _ _ _) rfl d) $$ [Hb Hh Hst Hts HG]
  isplitl [Hb]; · iexact Hb
  isplitl [Hh]; · iexact Hh
  iintro ⟨Hb, Hh⟩
  iapply (host_op (op := op5) (reshape_bufs_sub _ _ _ _ _ _) rfl d) $$ [Hb Hh Hst Hts HG]
  isplitl [Hb]; · iexact Hb
  isplitl [Hh]; · iexact Hh
  iintro ⟨Hb, Hh⟩
  iapply (region_call m κ d) $$ [Hb Hh Hst Hts HG]
  isplitr; · iexact Hctx
  isplitl [Hst]; · iexact Hst
  isplitl [Hb]; · iexact Hb
  isplitl [Hh]; · iexact Hh
  isplitl [HG]; · iexact HG
  iintro ⟨Hst, Hb, Hh⟩
  iapply (host_op (op := op7) (reshape_bufs_sub _ _ _ _ _ _) rfl d) $$ [Hb Hh Hst Hts]
  isplitl [Hb]; · iexact Hb
  isplitl [Hh]; · iexact Hh
  iintro ⟨Hb, Hh⟩
  iapply (host_op (op := op8) (unary_bufs_sub _ _ _ _ _) rfl d) $$ [Hb Hh Hst Hts]
  isplitl [Hb]; · iexact Hb
  isplitl [Hh]; · iexact Hh
  iintro ⟨Hb, Hh⟩
  iapply (host_op (op := op9) (reshape_bufs_sub _ _ _ _ _ _) rfl d) $$ [Hb Hh Hst Hts]
  isplitl [Hb]; · iexact Hb
  isplitl [Hh]; · iexact Hh
  iintro ⟨Hb, Hh⟩
  iapply (host_op (op := op10) (reshape_bufs_sub _ _ _ _ _ _) rfl d) $$ [Hb Hh Hst Hts]
  isplitl [Hb]; · iexact Hb
  isplitl [Hh]; · iexact Hh
  iintro ⟨Hb, Hh⟩
  iapply (host_op (op := op11) (unary_bufs_sub _ _ _ _ _) rfl d) $$ [Hb Hh Hst Hts]
  isplitl [Hb]; · iexact Hb
  isplitl [Hh]; · iexact Hh
  iintro ⟨Hb, Hh⟩
  iapply (host_op (op := op12) (reshape_bufs_sub _ _ _ _ _ _) rfl d) $$ [Hb Hh Hst Hts]
  isplitl [Hb]; · iexact Hb
  isplitl [Hh]; · iexact Hh
  iintro ⟨Hb, Hh⟩
  iapply (host_op (op := op13) (reshape_bufs_sub _ _ _ _ _ _) rfl d) $$ [Hb Hh Hst Hts]
  isplitl [Hb]; · iexact Hb
  isplitl [Hh]; · iexact Hh
  iintro ⟨Hb, Hh⟩
  imodintro
  isplitl [Hst]; · iexact Hst
  isplitl [Hh]; · iexact Hh
  isplitl [Hb] <;> iassumption

/-! ## The final state -/

def fq (d : Dev nD) (s' : Phys nD τ sig (Elt F)) : Prop := ∀ b ∈ ucRefs τ sig, s'.mem.mem (d, b) = VE m d b

theorem held_read (d : Dev nD) (W : Valuation τ sig (Elt F)) (s' : Phys nD τ sig (Elt F)) (b : DevRef τ sig) (hb : b ∈ ucRefs τ sig) :
    iprop(held (T d) (ucRefs τ sig) W ∗ SI s') ⊢ (⌜s'.mem.mem (d, b) = W b⌝ : sProp 𝕄) := by
  rw [held_sub_split (T d) (Finset.singleton_subset_iff.mpr hb) W]
  unfold held
  rw [bigSep_singleton]
  iintro ⟨⟨Hx, -⟩, HSI⟩
  ihave H := (SI_pointsTo_agree (st := s') (ℓ := (d, b)) (I := Finset.univ) (q := fullShare) (f := W b)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) :=
  fun x hx b hb => held_read d (VE m d) s' b hb x hx

/-- Every final state: the arrays at `VE`, the counters at zero. -/
def QC : PUnit × MemSt nD τ sig (Elt F) → Prop := fun r => (∀ d : Dev nD, ∀ b ∈ ucRefs τ sig, r.2.mem (d, b) = VE m d b) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h hz => ⟨h, hz⟩)

end Cert.Proof.Tile

end
-- ==== Proof.Frames.lean ====
/-
  The frames of the kernel: one run, read at the machine's numbers and at exact numbers.
-/
module

public import proofs.«01_k».proof.Proof.Run
public import proofs.«01_k».proof.Defs
public import proofs.«01_k».proof.Proof.Gen.Kernel

@[expose] public section

noncomputable section

namespace Cert.Proof.Tile

open Cert.KernelIdeal Cert.KernelIdeal.Gen
open Idealize.ShloMosaic
open Idealize.ShloMosaic.StableHlo
open Idealize.SL.Sem
open Idealize.ShloMosaic.Pipeline (ucRefs)

variable {F : FTy → Type} [FloatOps F] [Named F] (m : (ℓ : Loc nD τ sig) → Buf (Elt F) ℓ) (ρ : Dev nD → PrngReg)

/-- Nothing of @main writes an argument. -/
theorem VA_arg0 (d : Dev nD) : VA m d (Proc.devRef .tc main_arg0) = m (d, Proc.devRef .tc main_arg0) := by
  unfold VA op0 op1 op2
  rw [reshape_result_ne (h := by decide), unary_result_ne (h := by decide), reshape_result_ne (h := by decide)]
  rfl

theorem VA_arg1 (d : Dev nD) : VA m d (Proc.devRef .tc main_arg1) = m (d, Proc.devRef .tc main_arg1) := by
  unfold VA op0 op1 op2
  rw [reshape_result_ne (h := by decide), unary_result_ne (h := by decide), reshape_result_ne (h := by decide)]
  rfl

/-- An array that the host's later steps, the call and the region leave is as the host's first steps left it. -/
theorem VE_rest (d : Dev nD) (r : Ref sig .tc)
    (h : r ≠ main_v3_0 ∧ r ≠ main_v3_1 ∧ r ≠ main_v4 ∧ r ≠ main_v5 ∧ r ≠ main_v6_0 ∧ r ≠ main_v6_1 ∧ r ≠ main_v6_2 ∧ r ≠ main_v7
      ∧ r ≠ main_v8 ∧ r ≠ main_v9 ∧ r ≠ main_v10 ∧ r ≠ main_v11 ∧ r ≠ main_v12 ∧ r ≠ main_v13) :
    VE m d (Proc.devRef .tc r) = VA m d (Proc.devRef .tc r) := by
  obtain ⟨h1, h2, h3, h4, h5, h6, h7, h8, h9, h10, h11, h12, h13, h14⟩ := h
  unfold VE op7 op8 op9 op10 op11 op12 op13
  rw [reshape_result_ne (h := h14), reshape_result_ne (h := h13), unary_result_ne (h := h12), reshape_result_ne (h := h11),
    reshape_result_ne (h := h10), unary_result_ne (h := h9), reshape_result_ne (h := h8)]
  unfold VD after1
  have inj : ∀ {a b : Ref sig .tc}, a ≠ b → (Proc.devRef .tc a : DevRef τ sig) ≠ Proc.devRef .tc b := fun h e => h (Proc.devRef_injective _ e)
  rw [Function.update_of_ne (inj h7), Function.update_of_ne (inj h6), Function.update_of_ne (inj h5)]
  unfold VC op4 op5
  rw [reshape_result_ne (h := h4), reshape_result_ne (h := h3)]
  unfold VB
  rw [Function.update_of_ne (inj h2), Function.update_of_ne (inj h1)]

theorem VE_arg0 (d : Dev nD) : VE m d (Proc.devRef .tc main_arg0) = m (d, Proc.devRef .tc main_arg0) :=
  (VE_rest m d main_arg0 (by decide)).trans (VA_arg0 m d)
theorem VE_arg1 (d : Dev nD) : VE m d (Proc.devRef .tc main_arg1) = m (d, Proc.devRef .tc main_arg1) :=
  (VE_rest m d main_arg1 (by decide)).trans (VA_arg1 m d)

/-- What the two frames and the value claim read of a final state. -/
theorem frame_of [∀ e, Nonempty (Elt F e)] :
    θ_run (defs (F := F)) (threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run (defs (F := F)) (threads (F := F)) ⟨m, fun _ => 0, ρ⟩).mono (fun _ h => ⟨fun c => ⟨(h.1 c _ (mem_uc main_arg0 rfl)).trans (VE_arg0 m c), (h.1 c _ (mem_uc main_arg1 rfl)).trans (VE_arg1 m c)⟩, h.2⟩)
    (run_main m ρ)

/-- At the machine's numbers a named constant is the word it was printed as. -/
local instance namedBits : Named Bits where
  named _ _ {_} bits := Scalar.ofBits _ bits

theorem bodies_eq : (Cert.Kernel.defs₀ (F := Bits)) = Cert.KernelIdeal.defs₀ (F := Bits) := by
  funext p l a
  match p, l, a with
  | .scVector c s, 0, _ => rfl
  | .scVector c s, 1, _ => rfl
  | .tc, 0, _ => rfl
  | .tc, 1, (t, s) => rfl
  | .scScalar c, 0, _ => rfl
  | .scScalar c, 1, _ => rfl

theorem defs_eq : (Cert.Kernel.defs (F := Bits)) = Cert.KernelIdeal.defs (F := Bits) := by
  unfold Cert.Kernel.defs Cert.KernelIdeal.defs
  rw [bodies_eq]; rfl

theorem threads_eq : (Cert.Kernel.threads (F := Bits)) = Cert.KernelIdeal.threads (F := Bits) := rfl

theorem frame_kernel : Cert.quiescent_Kernel := fun m g _ => by
  have h := frame_of (F := Bits) m g
  rw [← defs_eq] at h
  exact h

theorem frame_ideal : Cert.quiescent_KernelIdeal := fun m g _ => frame_of (F := Ideal) m g

end Cert.Proof.Tile
end
-- ==== Proof.Reference.lean ====
/-
  The reference's run: a straight line of host operations, no counter anywhere.
-/
module

public import proofs.«01_k».proof.Proof.Gen.ReferenceIdeal.Run
public import proofs.«01_k».proof.Defs
public import proofs.«01_k».proof.Proof.Gen.Pre_drawn
public import Idealize.ShloMosaic.Lib.Quiescent

@[expose] public section

noncomputable section

namespace Cert.Proof.Reference

open Cert.ReferenceIdeal Cert.ReferenceIdeal.Gen
open Idealize.ShloMosaic Idealize.SL.Sem

/-- The reference declares no semaphore, so its counters end as they began. -/
theorem frame_reference : Cert.quiescent_ReferenceIdeal := fun m ρ _ =>
  (θ_run (defs (F := Ideal)) (onTc (τ := τ) (main (F := Ideal))) ⟨m, fun _ => 0, ρ⟩).mono
    (fun _ h => ⟨fun c => (h c).2.2.2, sem_eq_zero_of_no_sems (by decide) _⟩) (Value.run (F := Ideal) m ρ)

end Cert.Proof.Reference

end
-- ==== Proof.TileSum.lean ====
/-
  What a tile's accumulator and energies hold at exact numbers: sums over the edges of the tile's chunks.
-/
module

public import proofs.«01_k».proof.Proof.Words
public import Idealize.ShloMosaic.PureOps.Ideal
public import Idealize.ShloMosaic.Lib.IdealHost

@[expose] public section

noncomputable section

open scoped BigOperators

namespace Cert.Proof.Tile

open Cert.KernelIdeal Cert.KernelIdeal.Gen
open Idealize.ShloMosaic Idealize.SL.Sem

/-! ## A masked scatter that adds is a sum over its lanes -/

theorem foldl_adds {ι J : Type} (L : List ι) (p : ι → J → Prop) [∀ k j, Decidable (p k j)] (v : ι → EReal) (f : J → EReal) (j : J)
    (g : (J → EReal) → ι → J → EReal) (hg : ∀ a k j, g a k j = a j + if p k j then v k else 0) :
    L.foldl g f j = f j + (L.map fun k => if p k j then v k else 0).sum := by
  induction L generalizing f with
  | nil => simp
  | cons k L ih => rw [List.foldl_cons, ih, hg, List.map_cons, List.sum_cons, add_assoc]

theorem storeIdx_add (f : S101376.Idx → EReal) (a : IVec S16 32) (v : S16.Idx → EReal) (mask : IVec S16 1)
    (h : ∀ b x, ((![a] : Fin 1 → IVec S16 32) b x).toNat < S101376.size b) (j : S101376.Idx) :
    storeIdx (s := S101376) (e := .f32) (F := Ideal) f ![a] v mask true h j
      = f j + ∑ k : Fin 16, if mask (Shape.ofLane k) = 1 ∧ (j 0).val = (a (Shape.ofLane k)).toNat then v (Shape.ofLane k) else 0 := by
  unfold storeIdx
  refine (foldl_adds (List.finRange 16) (fun k (j : S101376.Idx) => mask (Shape.ofLane (d := ![16]) k) = 1 ∧ (j 0).val = (a (Shape.ofLane (d := ![16]) k)).toNat)
    (fun k => v (Shape.ofLane (d := ![16]) k)) f j _ ?_).trans ?_
  · intro g k i
    by_cases hm : mask (Shape.ofLane (d := ![16]) k) = 1
    · by_cases hi : (i 0).val = (a (Shape.ofLane (d := ![16]) k)).toNat
      · have hall : ∀ b : Fin 1, (i b).val = (idxAt (s := S101376) ![a] h (Shape.ofLane (d := ![16]) k) b).val := by
          intro b; obtain rfl : b = 0 := Subsingleton.elim (α := Fin 1) _ _; exact hi
        have e : idxAt (s := S101376) ![a] h (Shape.ofLane (d := ![16]) k) = i := by
          funext b; exact Fin.ext (hall b).symm
        rw [if_pos hm, if_pos (⟨hm, hi⟩ : _ ∧ _), if_pos hall, if_pos rfl, e]
        rfl
      · rw [if_pos hm, if_neg (show ¬ ∀ b : Fin 1, (i b).val = (idxAt (s := S101376) ![a] h (Shape.ofLane (d := ![16]) k) b).val from fun hh => hi (hh 0)),
          if_neg (show ¬ (_ ∧ _) from fun hh => hi hh.2), add_zero]
    · rw [if_neg hm, if_neg (fun hh => hm hh.1), add_zero]
  · congr 1

/-! ## An edge's force and energy, as the kernel's arithmetic has them -/

variable (bv : S19200000.Idx → EReal) (dst : S6400000.Idx → BitVec 32)

/-- Component `o` of edge `n`'s bond vector, and its receiver. -/
def bvAt (n o : ℕ) : EReal := bv (ix (3 * n + o))
def dstAt (n : ℕ) : BitVec 32 := dst (ix n)

/-- The inverse squared length, its cube, and the force's coefficient. -/
def kInv (x y z : EReal) : EReal := Ideal.div 1 (x * x + y * y + z * z)
def kSix (x y z : EReal) : EReal := kInv x y z * kInv x y z * kInv x y z
def kCoef (x y z : EReal) : EReal := (2 * (kSix x y z * kSix x y z) - kSix x y z) * kInv x y z
def kForce (n o : ℕ) : EReal := kCoef (bvAt bv n 0) (bvAt bv n 1) (bvAt bv n 2) * bvAt bv n o
def kEn (n : ℕ) : EReal :=
  kSix (bvAt bv n 0) (bvAt bv n 1) (bvAt bv n 2) * kSix (bvAt bv n 0) (bvAt bv n 1) (bvAt bv n 2)
    - kSix (bvAt bv n 0) (bvAt bv n 1) (bvAt bv n 2)

/-- What edge `n` adds to element `j` of an accumulator whose first receiver is `l`. -/
def con (l : BitVec 32) (n j : ℕ) : EReal :=
  if (dstAt dst n - l).toNat < 33792 ∧ (dstAt dst n - l).toNat = j / 3 then kForce bv n (j % 3) else 0

theorem ofBits_two : Ideal.ofBits .f32 0x40000000#32 = 2 := by
  rw [show (2 : EReal) = ((2 : ℝ) : EReal) by norm_cast]
  simp [Ideal.ofBits, Ideal.ieee, -EReal.coe_mul]; norm_num

theorem pay14_at (x y z : FVec Ideal S16 .f32) (k : S16.Idx) : k0_pay14 (F := Ideal) x y z k = kInv (x k) (y k) (z k) := by
  show Ideal.div (Ideal.ofBits .f32 0x3F800000#32) _ = _
  rw [Ideal.ofBits_one_f32]; rfl
theorem pay15_at (x y z : FVec Ideal S16 .f32) (k : S16.Idx) : k0_pay15 (F := Ideal) x y z k = kSix (x k) (y k) (z k) := by
  show k0_pay14 (F := Ideal) x y z k * k0_pay14 (F := Ideal) x y z k * k0_pay14 (F := Ideal) x y z k = _
  rw [pay14_at]; rfl
theorem pay16_at (x y z : FVec Ideal S16 .f32) (k : S16.Idx) :
    k0_pay16 (F := Ideal) x y z k = kSix (x k) (y k) (z k) * kSix (x k) (y k) (z k) := by
  show k0_pay15 (F := Ideal) x y z k * k0_pay15 (F := Ideal) x y z k = _
  rw [pay15_at]
theorem pay17_at (x y z : FVec Ideal S16 .f32) (k : S16.Idx) : k0_pay17 (F := Ideal) x y z k = kCoef (x k) (y k) (z k) := by
  show (Ideal.ofBits .f32 0x40000000#32 * k0_pay16 (F := Ideal) x y z k - k0_pay15 (F := Ideal) x y z k) * k0_pay14 (F := Ideal) x y z k = _
  rw [pay14_at, pay15_at, pay16_at, ofBits_two]; rfl

/-! ## One step -/

theorem three (w : ℕ) (j : ℕ) (M : Prop) [Decidable M] (A B C : EReal) (hM : M ↔ w < 33792) :
    ((if M ∧ j = (if w < 33792 then 3 * w else 0) then A else 0) + (if M ∧ j = (if w < 33792 then 3 * w else 0) + 1 then B else 0))
        + (if M ∧ j = (if w < 33792 then 3 * w else 0) + 2 then C else 0)
      = if w < 33792 ∧ w = j / 3 then (if j % 3 = 0 then A else if j % 3 = 1 then B else C) else 0 := by
  by_cases h : w < 33792
  · have hm := hM.mpr h
    simp only [h, hm, if_true, true_and]
    by_cases hw : w = j / 3
    · rw [if_pos hw]
      have : j % 3 = 0 ∨ j % 3 = 1 ∨ j % 3 = 2 := by omega
      rcases this with h0 | h0 | h0
      · rw [if_pos (by omega), if_neg (by omega), if_neg (by omega), if_pos h0]; simp
      · rw [if_neg (by omega), if_pos (by omega), if_neg (by omega), if_neg (by omega), if_pos h0]; simp
      · rw [if_neg (by omega), if_neg (by omega), if_pos (by omega), if_neg (by omega), if_neg (by omega)]; simp
    · rw [if_neg hw, if_neg (by omega), if_neg (by omega), if_neg (by omega)]; simp
  · have hm := mt hM.mp h
    simp [h, hm]

theorem stepAcc_at (l : BitVec 32) (d : Vec Ideal S16 .i32) (x y z : Vec Ideal S16 .f32) (acc : S101376.Idx → EReal) (j : S101376.Idx) :
    stepAcc (F := Ideal) l d x y z acc j = acc j + ∑ k : Fin 16,
      if (d (Shape.ofLane k) - l).toNat < 33792 ∧ (d (Shape.ofLane k) - l).toNat = (j 0).val / 3
      then (if (j 0).val % 3 = 0 then kCoef (x (Shape.ofLane k)) (y (Shape.ofLane k)) (z (Shape.ofLane k)) * x (Shape.ofLane k)
        else if (j 0).val % 3 = 1 then kCoef (x (Shape.ofLane k)) (y (Shape.ofLane k)) (z (Shape.ofLane k)) * y (Shape.ofLane k)
        else kCoef (x (Shape.ofLane k)) (y (Shape.ofLane k)) (z (Shape.ofLane k)) * z (Shape.ofLane k)) else 0 := by
  unfold stepAcc
  refine (storeIdx_add _ _ _ _ _ j).trans ?_
  refine (congrArg (· + _) ((storeIdx_add _ _ _ _ _ j).trans (congrArg (· + _) (storeIdx_add _ _ _ _ _ j)))).trans ?_
  beta_reduce
  rw [add_assoc, add_assoc, ← Finset.sum_add_distrib, ← Finset.sum_add_distrib]
  congr 1
  refine Finset.sum_congr rfl fun k _ => ?_
  rw [pay22_toNat, pay3_toNat, pay20_toNat, ← three _ _ _ _ _ _ (pay19_iff (F := Ideal) l d (Shape.ofLane k)), add_assoc]
  have e1 : k0_pay21 (F := Ideal) x y z (Shape.ofLane k) = kCoef (x (Shape.ofLane k)) (y (Shape.ofLane k)) (z (Shape.ofLane k)) * x (Shape.ofLane k) := by
    rw [← pay17_at]; rfl
  have e2 : k0_pay2 (F := Ideal) y (k0_pay17 x y z) (Shape.ofLane k) = kCoef (x (Shape.ofLane k)) (y (Shape.ofLane k)) (z (Shape.ofLane k)) * y (Shape.ofLane k) := by
    rw [← pay17_at]; rfl
  have e3 : k0_pay4 (F := Ideal) z (k0_pay17 x y z) (Shape.ofLane k) = kCoef (x (Shape.ofLane k)) (y (Shape.ofLane k)) (z (Shape.ofLane k)) * z (Shape.ofLane k) := by
    rw [← pay17_at]; rfl
  rw [e1, e2, e3]

/-! ## A chunk -/

theorem comp_at (e0 k o x : ℕ) (hk : k < 200) (hx : x < 16) (ho : o < 3) :
    comp (F := Ideal) (bvChunk bv e0) k o (Shape.ofLane (d := ![16]) ⟨x, hx⟩) = bvAt bv (e0 + (16 * k + x)) o := by
  unfold comp bvChunk bvAt
  congr 2
  rw [ix_val]
  show 3 * e0 + (48 * k + 3 * x + o) % 9600 = _
  rw [Nat.mod_eq_of_lt (by omega)]; omega

theorem recv_at (e0 k x : ℕ) (hk : k < 200) (hx : x < 16) :
    recv (F := Ideal) (dstChunk (F := Ideal) dst e0) k (Shape.ofLane (d := ![16]) ⟨x, hx⟩) = dstAt dst (e0 + (16 * k + x)) := by
  unfold recv dstChunk dstAt
  congr 2
  rw [ix_val]
  show e0 + (16 * k + x) % 3200 = _
  rw [Nat.mod_eq_of_lt (by omega)]

theorem sum_range_mul {M : Type} [AddCommMonoid M] (n p : ℕ) (f : ℕ → M) :
    ∑ k ∈ Finset.range n, ∑ x ∈ Finset.range p, f (p * k + x) = ∑ t ∈ Finset.range (n * p), f t := by
  induction n with
  | zero => simp
  | succ n ih => rw [Finset.sum_range_succ, ih, Nat.succ_mul, Finset.sum_range_add, Nat.mul_comm p n]

theorem steps_acc (l : BitVec 32) (e0 : ℕ) (st : St Ideal) (j : S101376.Idx) (K : ℕ) (hK : K ≤ 200) :
    (steps (F := Ideal) l (bvChunk bv e0) (dstChunk (F := Ideal) dst e0) st K).1 j
      = st.1 j + ∑ t ∈ Finset.range (K * 16), con bv dst l (e0 + t) (j 0).val := by
  induction K with
  | zero => rw [Nat.zero_mul, Finset.range_zero, Finset.sum_empty, add_zero]; rfl
  | succ K ih =>
    rw [steps_succ]
    show stepAcc (F := Ideal) l _ _ _ _ _ j = _
    rw [stepAcc_at, ih (by omega), Nat.succ_mul, Finset.sum_range_add, add_assoc]
    congr 2
    rw [Finset.sum_range]
    refine Finset.sum_congr rfl fun k _ => ?_
    have hk := k.isLt
    have e1 := recv_at dst e0 K k.val (by omega) hk
    have c0 := comp_at bv e0 K 0 k.val (by omega) hk (by omega)
    have c1 := comp_at bv e0 K 1 k.val (by omega) hk (by omega)
    have c2 := comp_at bv e0 K 2 k.val (by omega) hk (by omega)
    rw [Nat.mul_comm 16 K] at e1 c0 c1 c2
    rw [show Shape.ofLane (d := ![16]) k = Shape.ofLane (d := ![16]) ⟨k.val, hk⟩ from rfl, e1, c0, c1, c2]
    unfold con kForce
    have h3 : (j 0).val % 3 = 0 ∨ (j 0).val % 3 = 1 ∨ (j 0).val % 3 = 2 := by omega
    rcases h3 with h | h | h <;> rw [h] <;> rfl

theorem steps_en (l : BitVec 32) (e0 : ℕ) (st : St Ideal) (x : ℕ) (hx : x < 16) (K : ℕ) (hK : K ≤ 200) :
    (steps (F := Ideal) l (bvChunk bv e0) (dstChunk (F := Ideal) dst e0) st K).2 (Shape.ofLane (d := ![16]) ⟨x, hx⟩)
      = st.2 (Shape.ofLane (d := ![16]) ⟨x, hx⟩) + ∑ k ∈ Finset.range K, kEn bv (e0 + (16 * k + x)) := by
  induction K with
  | zero => rw [Finset.range_zero, Finset.sum_empty, add_zero]; rfl
  | succ K ih =>
    rw [steps_succ, Finset.sum_range_succ, ← add_assoc, ← ih (by omega)]
    generalize steps (F := Ideal) l (bvChunk bv e0) (dstChunk (F := Ideal) dst e0) st K = s
    show s.2 _ + (k0_pay16 (F := Ideal) _ _ _ _ - k0_pay15 (F := Ideal) _ _ _ _) = _
    rw [pay15_at, pay16_at, comp_at bv e0 K 0 x (by omega) hx (by omega), comp_at bv e0 K 1 x (by omega) hx (by omega),
      comp_at bv e0 K 2 x (by omega) hx (by omega)]
    rfl

/-! ## A tile -/

theorem tile_acc (c s : ℕ) (j : S101376.Idx) (J : ℕ) :
    (tile (F := Ideal) bv dst c s J).1 j
      = ∑ i ∈ Finset.range J, ∑ t ∈ Finset.range 3200, con bv dst (lo s) (edge0 c s i + t) (j 0).val := by
  induction J with
  | zero => rw [Finset.range_zero, Finset.sum_empty]; exact Ideal.ofBits_zero_f32
  | succ J ih => rw [tile_succ, steps_acc bv dst _ _ _ _ 200 le_rfl, ih, Finset.sum_range_succ _ J]

theorem tile_en (c s : ℕ) (x : ℕ) (hx : x < 16) (J : ℕ) :
    (tile (F := Ideal) bv dst c s J).2 (Shape.ofLane (d := ![16]) ⟨x, hx⟩)
      = ∑ i ∈ Finset.range J, ∑ k ∈ Finset.range 200, kEn bv (edge0 c s i + (16 * k + x)) := by
  induction J with
  | zero => rw [Finset.range_zero, Finset.sum_empty]; exact Ideal.ofBits_zero_f32
  | succ J ih => rw [tile_succ, steps_en bv dst _ _ _ _ _ 200 le_rfl, ih, Finset.sum_range_succ _ J]

end Cert.Proof.Tile

end
-- ==== Proof.Dealt.lean ====
/-
  Sums over the chunks that the tiles of a group take in turn are sums over all the chunks.
-/
module

public import proofs.«01_k».proof.Proof.TileSum

@[expose] public section

noncomputable section

open scoped BigOperators

namespace Cert.Proof.Tile

/-- Chunks dealt out to `p` tiles in turn are all the chunks. -/
theorem sum_dealt {M : Type} [AddCommMonoid M] (n p : ℕ) (hp : 0 < p) (g : ℕ → M) :
    ∑ s ∈ Finset.range p, ∑ i ∈ Finset.range ((n - s + p - 1) / p), g (s + i * p) = ∑ t ∈ Finset.range n, g t := by
  rw [Finset.sum_sigma']
  refine Finset.sum_bij' (fun x _ => x.1 + x.2 * p) (fun t _ => ⟨t % p, t / p⟩) ?_ ?_ ?_ ?_ ?_
  · rintro ⟨s, i⟩ h
    simp only [Finset.mem_sigma, Finset.mem_range] at h ⊢
    obtain ⟨hs, hi⟩ := h
    rw [Nat.lt_div_iff_mul_lt hp] at hi
    omega
  · intro t h
    simp only [Finset.mem_sigma, Finset.mem_range] at h ⊢
    have hm := Nat.mod_lt t hp
    have hd := Nat.mod_add_div t p
    refine ⟨hm, ?_⟩
    rw [Nat.lt_div_iff_mul_lt hp, Nat.mul_comm]
    omega
  · rintro ⟨s, i⟩ h
    simp only [Finset.mem_sigma, Finset.mem_range] at h
    have h1 : (s + i * p) % p = s := by rw [Nat.add_mul_mod_self_right, Nat.mod_eq_of_lt h.1]
    have h2 : (s + i * p) / p = i := by rw [Nat.add_mul_div_right _ _ hp, Nat.div_eq_of_lt h.1, Nat.zero_add]
    simp only [h1, h2]
  · intro t _
    simp only
    rw [Nat.mul_comm]; exact Nat.mod_add_div t p
  · intro _ _; rfl

/-- A group's chunks, edge by edge, over both cores. -/
theorem sum_edges {M : Type} [AddCommMonoid M] (p : ℕ) (hp : 0 < p) (g : ℕ → M) :
    (∑ s ∈ Finset.range p, ∑ i ∈ Finset.range ((1000 - s + p - 1) / p), ∑ t ∈ Finset.range 3200, g ((s + i * p) * 3200 + t))
      + (∑ s ∈ Finset.range p, ∑ i ∈ Finset.range ((1000 - s + p - 1) / p), ∑ t ∈ Finset.range 3200, g (3200000 + (s + i * p) * 3200 + t))
      = ∑ e ∈ Finset.range 6400000, g e := by
  rw [sum_dealt 1000 p hp (fun k => ∑ t ∈ Finset.range 3200, g (k * 3200 + t)),
    sum_dealt 1000 p hp (fun k => ∑ t ∈ Finset.range 3200, g (3200000 + k * 3200 + t))]
  have e1 : ∑ k ∈ Finset.range 1000, ∑ t ∈ Finset.range 3200, g (k * 3200 + t) = ∑ e ∈ Finset.range (1000 * 3200), g e := by
    rw [← sum_range_mul 1000 3200 g]
    exact Finset.sum_congr rfl fun k _ => Finset.sum_congr rfl fun t _ => by rw [Nat.mul_comm]
  have e2 : ∑ k ∈ Finset.range 1000, ∑ t ∈ Finset.range 3200, g (3200000 + k * 3200 + t) = ∑ e ∈ Finset.range (1000 * 3200), g (3200000 + e) := by
    rw [← sum_range_mul 1000 3200 (fun e => g (3200000 + e))]
    exact Finset.sum_congr rfl fun k _ => Finset.sum_congr rfl fun t _ => by rw [Nat.mul_comm 3200 k, Nat.add_assoc]
  rw [e1, e2, show 6400000 = 3200000 + 3200000 by norm_num, Finset.sum_range_add g 3200000 3200000]

end Cert.Proof.Tile

end
-- ==== Proof.Combined.lean ====
/-
  The results the kernel's combining call leaves, at exact numbers: sums over all the edges.
-/
module

public import proofs.«01_k».proof.Proof.TileSum
public import proofs.«01_k».proof.Proof.Dealt
public import proofs.«01_k».proof.Proof.Run
public import Idealize.ShloMosaic.Lib.Pointwise.Tactic

@[expose] public section

noncomputable section

open scoped BigOperators

namespace Cert.Proof.Tile

open Cert.KernelIdeal Cert.KernelIdeal.Gen
open Idealize.ShloMosaic Idealize.SL.Sem

variable (bv : S19200000.Idx → EReal) (dst : S6400000.Idx → BitVec 32)

/-! ## The partial sums of the tiles, added by group -/

/-- Element `q` of the partial sums of tile `s` of core `c`. -/
def part (c s q : ℕ) : EReal := ∑ i ∈ Finset.range (chunks s), ∑ t ∈ Finset.range 3200, con bv dst (lo s) (edge0 c s i + t) q

/-- All the edges' contributions to element `q` of group `g`. -/
def total (g q : ℕ) : EReal := ∑ e ∈ Finset.range 6400000, con bv dst (BitVec.ofNat 32 (33792 * g)) e q

theorem part_total (s0 p g q : ℕ) (hp : 0 < p) (hs : ∀ x < p, slot (s0 + x) = x ∧ peers (s0 + x) = p ∧ group (s0 + x) = g) :
    (∑ x ∈ Finset.range p, part bv dst 0 (s0 + x) q) + (∑ x ∈ Finset.range p, part bv dst 1 (s0 + x) q) = total bv dst g q := by
  unfold total
  rw [← sum_edges p hp]
  refine congrArg₂ (· + ·) ?_ ?_
  all_goals
    refine Finset.sum_congr rfl fun x hx => ?_
    obtain ⟨h1, h2, h3⟩ := hs x (Finset.mem_range.mp hx)
    unfold part chunks edge0 lo
    rw [h1, h2, h3]
  exact Finset.sum_congr rfl fun i _ => Finset.sum_congr rfl fun t _ => by rw [Nat.zero_mul, Nat.zero_add]

theorem partials_at (c s q : ℕ) (hc : c < 2) (hs : s < 16) (hq : q < 101376) :
    partials (F := Ideal) bv dst (ix3 ⟨c, hc⟩ ⟨s, hs⟩ ⟨q, hq⟩) = part bv dst c s q := by
  show (tile (F := Ideal) bv dst c s (chunks s)).1 (ix q) = _
  rw [tile_acc, ix_val, Nat.mod_eq_of_lt hq]; rfl

theorem row_at (r q : ℕ) (hr : r < 32) (hq : q < 101376) :
    shapeCast S32x101376 (partials (F := Ideal) bv dst) shapeCasts_S2x16x101376_S32x101376 (ix2 ⟨r, hr⟩ ⟨q, hq⟩)
      = part bv dst (r / 16) (r % 16) q := by
  rw [← partials_at bv dst (r / 16) (r % 16) q (by omega) (by omega) hq]
  pointwise

theorem slab_at (P : S32x101376.Idx → EReal) (j : S3x101376.Idx) (r : ℕ) (hr : r < 32) (h1 : (j 1).val < 101376) :
    slabOf (F := Ideal) P ((j 1).val / 512) (ix2 ⟨r, hr⟩ (inBlk j 1)) = P (ix2 ⟨r, hr⟩ ⟨(j 1).val, h1⟩) := by
  unfold slabOf
  congr 1
  funext a
  match a with
  | 0 => rfl
  | 1 =>
    apply Fin.ext
    show (512 * ((j 1).val / 512) + (j 1).val % 512) % 101376 = (j 1).val
    rw [Nat.div_add_mod, Nat.mod_eq_of_lt h1]

/-- The TensorCore's call at an index. -/
theorem pay1_at (v : S32x512.Idx → EReal) (j : S3x512.Idx) (w : ℕ → EReal) (hw : ∀ r (hr : r < 32), v (ix2 ⟨r, hr⟩ (j 1)) = w r) :
    k1_pay1 (F := Ideal) v j = (if (j 0).val < 1 then (∑ x ∈ Finset.range 6, w x) + ∑ x ∈ Finset.range 6, w (16 + x)
      else if (j 0).val - 1 < 1 then (∑ x ∈ Finset.range 5, w (6 + x)) + ∑ x ∈ Finset.range 5, w (22 + x)
      else (∑ x ∈ Finset.range 5, w (11 + x)) + ∑ x ∈ Finset.range 5, w (27 + x)) * 12 := by
  have h12 : Ideal.ofBits FTy.f32 0x41400000#32 = 12 := by
    rw [show (12 : EReal) = ((12 : ℝ) : EReal) by norm_cast]
    simp [Ideal.ofBits, Ideal.ieee, -EReal.coe_mul]; norm_num
  unfold k1_pay1
  pointwise
  rw [h12]
  simp only [Finset.sum_range, hw, dite_eq_ite]

theorem pay2_at (v : S32x512.Idx → EReal) (j : S3x512.Idx) : k1_pay2 (F := Ideal) v j = k1_pay1 (F := Ideal) v j * ((-2 : ℝ) : EReal) := by
  have h2 : Ideal.ofBits FTy.f32 0xC0000000#32 = ((-2 : ℝ) : EReal) := by
    simp [Ideal.ofBits, Ideal.ieee, -EReal.coe_mul, -EReal.coe_neg]; norm_num
  unfold k1_pay2
  pointwise
  rw [h2]

theorem forces_at (j : S3x101376.Idx) :
    forcesOf (F := Ideal) (shapeCast S32x101376 (partials (F := Ideal) bv dst) shapeCasts_S2x16x101376_S32x101376) j
      = total bv dst (j 0).val (j 1).val * 12 := by
  have h1 : (j 1).val < 101376 := (j 1).isLt
  have h0 : (j 0).val < 3 := (j 0).isLt
  unfold forcesOf
  rw [pay1_at _ _ (fun r => part bv dst (r / 16) (r % 16) (j 1).val) fun r hr => (slab_at _ j r hr h1).trans (row_at bv dst r _ hr h1)]
  have e0 : (inBlk j 0).val = (j 0).val := rfl
  rw [e0]
  refine congrArg (· * (12 : EReal)) ?_
  have c : ∀ (s0 p : ℕ), s0 + p ≤ 16 → (∑ x ∈ Finset.range p, part bv dst ((s0 + x) / 16) ((s0 + x) % 16) (j 1).val)
      + (∑ x ∈ Finset.range p, part bv dst ((16 + s0 + x) / 16) ((16 + s0 + x) % 16) (j 1).val)
      = (∑ x ∈ Finset.range p, part bv dst 0 (s0 + x) (j 1).val) + (∑ x ∈ Finset.range p, part bv dst 1 (s0 + x) (j 1).val) := by
    intro s0 p hp
    refine congrArg₂ (· + ·) ?_ ?_
    all_goals
      refine Finset.sum_congr rfl fun x hx => ?_
      have := Finset.mem_range.mp hx
    · rw [Nat.div_eq_of_lt (by omega), Nat.mod_eq_of_lt (by omega)]
    · rw [show (16 + s0 + x) / 16 = 1 by omega, show (16 + s0 + x) % 16 = s0 + x by omega]
  have hg : (j 0).val = 0 ∨ (j 0).val = 1 ∨ (j 0).val = 2 := by omega
  rcases hg with h | h | h
  · rw [h, if_pos (by decide)]
    have := c 0 6 (by decide)
    simp only [Nat.zero_add] at this
    rw [show (16 + 0) = 16 from rfl] at this
    rw [this]
    have t := part_total bv dst 0 6 0 (j 1).val (by decide) (by decide)
    simp only [Nat.zero_add] at t
    exact t
  · rw [h, if_neg (by decide), if_pos (by decide)]
    exact (c 6 5 (by decide)).trans (part_total bv dst 6 5 1 (j 1).val (by decide) (by decide))
  · rw [h, if_neg (by decide), if_neg (by decide)]
    exact (c 11 5 (by decide)).trans (part_total bv dst 11 5 2 (j 1).val (by decide) (by decide))

theorem analytic_at (j : S3x101376.Idx) :
    analyticOf (F := Ideal) (shapeCast S32x101376 (partials (F := Ideal) bv dst) shapeCasts_S2x16x101376_S32x101376) j
      = total bv dst (j 0).val (j 1).val * 12 * ((-2 : ℝ) : EReal) := by
  rw [← forces_at]
  exact pay2_at _ _

/-! ## The energy -/

/-- Lane `x` of the energies of tile `s` of core `c`, before the factor four. -/
def lane (c s x : ℕ) : EReal := ∑ i ∈ Finset.range (chunks s), ∑ k ∈ Finset.range 200, kEn bv (edge0 c s i + (16 * k + x))

theorem ofBits_four : Ideal.ofBits .f32 0x40800000#32 = 4 := by
  rw [show (4 : EReal) = ((4 : ℝ) : EReal) by norm_cast]
  simp [Ideal.ofBits, Ideal.ieee, -EReal.coe_mul]; norm_num

theorem energies_at (c s x : ℕ) (hc : c < 2) (hs : s < 16) (hx : x < 16) :
    energies (F := Ideal) bv dst (ix3 ⟨c, hc⟩ ⟨s, hs⟩ ⟨x, hx⟩) = lane bv c s x * 4 := by
  show (tile (F := Ideal) bv dst c s (chunks s)).2 (ix x) * Ideal.ofBits .f32 0x40800000#32 = _
  rw [ofBits_four]
  have e : (ix x : S16.Idx) = Shape.ofLane (d := ![16]) ⟨x, hx⟩ := by
    unfold ix
    congr 2
    exact Nat.mod_eq_of_lt hx
  rw [e, tile_en]; rfl

theorem four_mul_sum {ι : Type} (S : Finset ι) (f : ι → EReal) : (∑ i ∈ S, f i) * 4 = ∑ i ∈ S, f i * 4 := by
  classical
  induction S using Finset.induction_on with
  | empty => simp
  | insert a S ha ih =>
    rw [Finset.sum_insert ha, Finset.sum_insert ha, ← ih]
    exact EReal.right_distrib_of_nonneg_of_ne_top (by norm_num) (EReal.coe_ne_top 4) _ _

theorem lanes_total (c s : ℕ) : ∑ x ∈ Finset.range 16, lane bv c s x
    = ∑ i ∈ Finset.range (chunks s), ∑ t ∈ Finset.range 3200, kEn bv (edge0 c s i + t) := by
  unfold lane
  rw [Finset.sum_comm]
  refine Finset.sum_congr rfl fun i _ => ?_
  rw [Finset.sum_comm]
  exact sum_range_mul 200 16 fun t => kEn bv (edge0 c s i + t)

/-- The energies of all edges. -/
def energyTotal : EReal := ∑ e ∈ Finset.range 6400000, kEn bv e

def partE (c s : ℕ) : EReal := ∑ i ∈ Finset.range (chunks s), ∑ t ∈ Finset.range 3200, kEn bv (edge0 c s i + t)

theorem partE_total (s0 p g : ℕ) (hp : 0 < p) (hs : ∀ x < p, slot (s0 + x) = x ∧ peers (s0 + x) = p ∧ group (s0 + x) = g) :
    (∑ x ∈ Finset.range p, partE bv 0 (s0 + x)) + (∑ x ∈ Finset.range p, partE bv 1 (s0 + x)) = energyTotal bv := by
  unfold energyTotal
  rw [← sum_edges p hp]
  refine congrArg₂ (· + ·) ?_ ?_
  all_goals
    refine Finset.sum_congr rfl fun x hx => ?_
    obtain ⟨h1, h2, h3⟩ := hs x (Finset.mem_range.mp hx)
    unfold partE chunks edge0
    rw [h1, h2]
  exact Finset.sum_congr rfl fun i _ => Finset.sum_congr rfl fun t _ => by rw [Nat.zero_mul, Nat.zero_add]

theorem allE : ∑ l ∈ Finset.range 512, lane bv (l / 16 / 16) (l / 16 % 16) (l % 16) = energyTotal bv + energyTotal bv + energyTotal bv := by
  have e1 := sum_range_mul 32 16 fun l => lane bv (l / 16 / 16) (l / 16 % 16) (l % 16)
  rw [show 512 = 32 * 16 from rfl, ← e1]
  have e2 : ∑ k ∈ Finset.range 32, ∑ x ∈ Finset.range 16, lane bv ((16 * k + x) / 16 / 16) ((16 * k + x) / 16 % 16) ((16 * k + x) % 16)
      = ∑ k ∈ Finset.range 32, partE bv (k / 16) (k % 16) := by
    refine Finset.sum_congr rfl fun k _ => ?_
    refine Eq.trans ?_ (lanes_total bv (k / 16) (k % 16))
    refine Finset.sum_congr rfl fun x hx => ?_
    have := Finset.mem_range.mp hx
    rw [show (16 * k + x) / 16 = k by omega, show (16 * k + x) % 16 = x by omega]
  rw [e2]
  have e3 := partE_total bv 0 6 0 (by decide) (by decide)
  have e4 := partE_total bv 6 5 1 (by decide) (by decide)
  have e5 := partE_total bv 11 5 2 (by decide) (by decide)
  refine Eq.trans ?_ (congrArg₂ (· + ·) (congrArg₂ (· + ·) e3 e4) e5)
  simp only [Finset.sum_range_succ, Finset.sum_range_zero, Nat.reduceDiv, Nat.reduceMod, Nat.reduceAdd, zero_add]
  ac_rfl

theorem named_third : Named.named (F := Ideal) (φ := .f32) κ "third" 0x3EAAAAAB#32 = ((1 / 3 : ℝ) : EReal) := by
  simp [Named.named, κ]
theorem named_e0n : Named.named (F := Ideal) (φ := .f32) κ "e0n" 0xC708FC6E#32 = ((-9192978125 / 262144 : ℝ) : EReal) := by
  simp [Named.named, κ]

theorem energy_at (j : S1x1.Idx) :
    energyOf (F := Ideal) (shapeCast S1x512 (energies (F := Ideal) bv dst) shapeCasts_S2x16x16_S1x512) j
      = ((1 / 2 : ℝ) : EReal) * ((energyTotal bv + energyTotal bv + energyTotal bv) * 4 * ((1 / 3 : ℝ) : EReal) - ((-9192978125 / 262144 : ℝ) : EReal)) := by
  have hh : Ideal.ofBits FTy.f32 0x3F000000#32 = ((1 / 2 : ℝ) : EReal) := by
    simp [Ideal.ofBits, Ideal.ieee, -EReal.coe_mul]; norm_num
  unfold energyOf k1_pay3
  pointwise
  rw [hh, ← allE, four_mul_sum, Finset.sum_range]
  rw [named_third, named_e0n]
  have hs : (∑ x : Fin 1, ∑ y : Fin 512, energies (F := Ideal) bv dst (ix3 ⟨y.val / 256, by omega⟩ ⟨y.val / 16 % 16, by omega⟩ ⟨y.val % 16, by omega⟩))
      = ∑ i : Fin 512, lane bv (i.val / 16 / 16) (i.val / 16 % 16) (i.val % 16) * 4 := by
    rw [Finset.sum_const, Finset.card_univ, Fintype.card_fin, one_smul]
    refine Finset.sum_congr rfl fun y _ => ?_
    rw [energies_at, Nat.div_div_eq_div_mul]
  rw [← hs]

end Cert.Proof.Tile
end
-- ==== Proof.RefOps.lean ====
/-
  The reference's scatters, reductions and constants, read at an index.
-/
module

public import proofs.«01_k».proof.Proof.Gen.ReferenceIdeal.Run
public import Idealize.ShloMosaic.Lib.Pointwise.Tactic
public import Idealize.ShloMosaic.Lib.Routing.OpsPair
public import Idealize.ShloMosaic.Lib.IdealHost
public import Idealize.ShloMosaic.Lib.ReduceAll

@[expose] public section

noncomputable section

open scoped BigOperators

namespace Cert.Proof.Reference

open Cert.ReferenceIdeal Cert.ReferenceIdeal.Gen Idealize.ShloMosaic Idealize.SL.Sem

theorem start3_0 (e : Fin 6400000) (o : Fin 3) (idx : IVec S6400000x1 32) :
    scatter_S100000x3_S6400000x1_S6400000x3_1_0_0_1.start (ix2 e o) idx 0 = (idx (ix2 e 0)).toInt := by
  show (idx _).toInt = _
  congr 2
  funext b
  match b with
  | 0 => rfl
  | 1 => rfl
theorem start3_1 (e : Fin 6400000) (o : Fin 3) (idx : IVec S6400000x1 32) :
    scatter_S100000x3_S6400000x1_S6400000x3_1_0_0_1.start (ix2 e o) idx 1 = 0 := by
  rfl
theorem window3_0 (e : Fin 6400000) (o : Fin 3) :
    scatter_S100000x3_S6400000x1_S6400000x3_1_0_0_1.window (ix2 e o) 0 = 0 := by
  rfl
theorem window3_1 (e : Fin 6400000) (o : Fin 3) :
    scatter_S100000x3_S6400000x1_S6400000x3_1_0_0_1.window (ix2 e o) 1 = o.val := by
  rfl
theorem start1 (e : Fin 6400000) (idx : IVec S6400000x1 32) :
    scatter_S100000_S6400000x1_S6400000_n_0_0_1.start (ix1 e) idx 0 = (idx (ix2 e 0)).toInt := by
  show (idx _).toInt = _
  congr 2
  funext b
  match b with
  | 0 => rfl
  | 1 => rfl
theorem window1 (e : Fin 6400000) :
    scatter_S100000_S6400000x1_S6400000_n_0_0_1.window (ix1 e) 0 = 0 := by
  rfl

/-- Update rows added into a matrix by row number: an element's sum is over the rows that carry its number. -/
theorem scatter3_at (x : FVec Ideal S100000x3 .f32) (idx : IVec S6400000x1 32) (upd : FVec Ideal S6400000x3 .f32) (r : Fin 100000) (o : Fin 3) :
    Host.scatterAdd (F := Ideal) scatter_S100000x3_S6400000x1_S6400000x3_1_0_0_1 x idx upd (ix2 r o)
      = x (ix2 r o) + ∑ e : Fin 6400000, if (idx (ix2 e 0)).toInt = (r.val : Int) then upd (ix2 e o) else 0 := by
  show x (ix2 r o) + ∑ j ∈ Finset.univ.filter (fun j => scatter_S100000x3_S6400000x1_S6400000x3_1_0_0_1.resultIdx? j idx = some (ix2 r o)), upd j = _
  refine congrArg (_ + ·) ?_
  rw [← Finset.sum_filter]
  have key : ∀ (e : Fin 6400000) (o' : Fin 3), scatter_S100000x3_S6400000x1_S6400000x3_1_0_0_1.resultIdx? (ix2 e o') idx = some (ix2 r o)
      ↔ (idx (ix2 e 0)).toInt = (r.val : Int) ∧ o' = o := by
    intro e o'
    refine (Routing.resultIdx?_ix2 _ _ _ r o).trans ?_
    rw [start3_0, start3_1, window3_0, window3_1, Nat.cast_zero, add_zero, zero_add]
    refine and_congr Iff.rfl ⟨fun h => Fin.ext (by exact_mod_cast h), fun h => by rw [h]⟩
  have split : ∀ j : S6400000x3.Idx, j = ix2 (j 0 : Fin 6400000) (j 1 : Fin 3) := fun j => by
    funext a
    match a with
    | 0 => rfl
    | 1 => rfl
  refine Finset.sum_bij' (fun j _ => (j 0 : Fin 6400000)) (fun e _ => ix2 e o) ?_ ?_ ?_ ?_ ?_
  · intro j hj
    have h := (Finset.mem_filter.mp hj).2
    rw [split j] at h
    exact Finset.mem_filter.mpr ⟨Finset.mem_univ _, ((key _ _).mp h).1⟩
  · intro e he
    exact Finset.mem_filter.mpr ⟨Finset.mem_univ _, (key _ _).mpr ⟨(Finset.mem_filter.mp he).2, rfl⟩⟩
  · intro j hj
    have h := (Finset.mem_filter.mp hj).2
    rw [split j] at h
    have ho := ((key _ _).mp h).2
    rw [← ho]; exact (split j).symm
  · intro e he; rfl
  · intro j hj
    have h := (Finset.mem_filter.mp hj).2
    rw [split j] at h
    have ho := ((key _ _).mp h).2
    rw [← ho]; exact congrArg upd (split j)

theorem scatter1_at (x : FVec Ideal S100000 .f32) (idx : IVec S6400000x1 32) (upd : FVec Ideal S6400000 .f32) (r : Fin 100000) :
    Host.scatterAdd (F := Ideal) scatter_S100000_S6400000x1_S6400000_n_0_0_1 x idx upd (ix1 r)
      = x (ix1 r) + ∑ e : Fin 6400000, if (idx (ix2 e 0)).toInt = (r.val : Int) then upd (ix1 e) else 0 := by
  show x (ix1 r) + ∑ j ∈ Finset.univ.filter (fun j => scatter_S100000_S6400000x1_S6400000_n_0_0_1.resultIdx? j idx = some (ix1 r)), upd j = _
  refine congrArg (_ + ·) ?_
  rw [← Finset.sum_filter]
  have key : ∀ (e : Fin 6400000), scatter_S100000_S6400000x1_S6400000_n_0_0_1.resultIdx? (ix1 e) idx = some (ix1 r)
      ↔ (idx (ix2 e 0)).toInt = (r.val : Int) := by
    intro e
    refine (Routing.resultIdx?_ix1 _ _ _ r).trans ?_
    rw [start1, window1, Nat.cast_zero, add_zero]
  have split : ∀ j : S6400000.Idx, j = ix1 (j 0 : Fin 6400000) := fun j => by
    funext a
    match a with
    | 0 => rfl
  refine Finset.sum_bij' (fun j _ => (j 0 : Fin 6400000)) (fun e _ => ix1 e) ?_ ?_ ?_ ?_ ?_
  · intro j hj
    have h := (Finset.mem_filter.mp hj).2
    rw [split j] at h
    exact Finset.mem_filter.mpr ⟨Finset.mem_univ _, (key _).mp h⟩
  · intro e he
    exact Finset.mem_filter.mpr ⟨Finset.mem_univ _, (key _).mpr (Finset.mem_filter.mp he).2⟩
  · intro j hj; exact (split j).symm
  · intro e he; rfl
  · intro j hj; exact congrArg upd (split j)

/-- The sum over a row's three elements, and the sum over the nodes. -/
theorem rowSum_at (X : FVec Ideal S6400000x3 .f32) (e : Fin 6400000) :
    Host.reduceAdd (F := Ideal) X (constant S_ .f32 0x00000000#32) reducesTo_S6400000x3_S6400000_d1 h_S_ (ix1 e)
      = X (ix2 e 0) + X (ix2 e 1) + X (ix2 e 2) := by
  refine (Ideal.hostReduceAdd_single _ (by decide : S6400000x3.Reduces [1] S6400000) X _ (ix1 e)).trans ?_
  rw [show (constant (F := Ideal) S_ .f32 0x00000000#32) (Shape.Idx.first h_S_) = (0 : EReal) from Ideal.ofBits_zero_f32, zero_add]
  refine (Fin.sum_univ_three _).trans ?_
  refine congrArg₂ (· + ·) (congrArg₂ (· + ·) ?_ ?_) ?_
  all_goals
    refine congrArg X (funext fun a => ?_)
    match a with
    | 0 => rfl
    | 1 => rfl

theorem nodeSum_at (X : FVec Ideal S100000 .f32) (j : S_.Idx) :
    Host.reduceAdd (F := Ideal) X (constant S_ .f32 0x00000000#32) reducesTo_S100000_S_d0 h_S_ j = ∑ r : Fin 100000, X (ix1 r) := by
  refine (Ideal.hostReduceAdd_total _ (fun b => Fin.elim0 b) X _ j).trans ?_
  rw [show (constant (F := Ideal) S_ .f32 0x00000000#32) (Shape.Idx.first h_S_) = (0 : EReal) from Ideal.ofBits_zero_f32, zero_add]
  have split : ∀ j : S100000.Idx, j = ix1 (j 0 : Fin 100000) := fun j => by
    funext a
    match a with
    | 0 => rfl
  exact Finset.sum_bij' (fun j _ => (j 0 : Fin 100000)) (fun e _ => ix1 e) (fun _ _ => Finset.mem_univ _) (fun _ _ => Finset.mem_univ _)
    (fun j _ => (split j).symm) (fun _ _ => rfl) (fun j _ => congrArg X (split j))

/-- An array of ones, gathered, is ones. -/
theorem ones_at (idx : IVec S6400000x1 32) (j : S6400000.Idx) :
    Host.gather gather_S100000_S6400000x1_S6400000_n_0_n_n_0_1_1
      (broadcastInDim S100000 ![] bcast_S_S100000 (constant (F := Ideal) S_ .f32 0x3F800000#32)) idx j = (1 : EReal) := by
  show Ideal.ofBits .f32 0x3F800000#32 = 1
  exact Ideal.ofBits_one_f32

theorem ofBits_four : Ideal.ofBits .f32 0x40800000#32 = 4 := by
  rw [show (4 : EReal) = ((4 : ℝ) : EReal) by norm_cast]
  simp [Ideal.ofBits, Ideal.ieee, -EReal.coe_mul]; norm_num
theorem ofBits_two : Ideal.ofBits .f32 0x40000000#32 = 2 := by
  rw [show (2 : EReal) = ((2 : ℝ) : EReal) by norm_cast]
  simp [Ideal.ofBits, Ideal.ieee, -EReal.coe_mul]; norm_num
theorem ofBits_three : Ideal.ofBits .f32 0x40400000#32 = 3 := by
  rw [show (3 : EReal) = ((3 : ℝ) : EReal) by norm_cast]
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_m24 : Ideal.ofBits .f32 0xC1C00000#32 = ((-24 : ℝ) : EReal) := by
  simp [Ideal.ofBits, Ideal.ieee, -EReal.coe_mul, -EReal.coe_neg]; norm_num
theorem ofBits_e0 : Ideal.ofBits .f32 0xBBB38CE4#32 = ((-9192978125 / 262144 / 6400000 : ℝ) : EReal) := by
  simp [Ideal.ofBits, Ideal.ieee, -EReal.coe_mul, -EReal.coe_neg]; norm_num

end Cert.Proof.Reference

end
-- ==== Proof.RefSum.lean ====
/-
  The reference's three results, read at an index: sums over the edges of the pair energies, of the energy's derivative, and of
  the forces in closed form.
-/
module

public import proofs.«01_k».proof.Proof.RefOps
public import Idealize.ShloMosaic.Lib.Pipeline.Value

@[expose] public section

noncomputable section

open scoped BigOperators

namespace Cert.Proof.Reference

open Cert.ReferenceIdeal Cert.ReferenceIdeal.Gen Idealize.ShloMosaic Idealize.SL.Sem

/-! ## The reference's arrays, one by one -/

variable (A : FVec Ideal S6400000x3 .f32) (E : IVec S2x6400000 32)

/-- The receivers; and as a column. -/
def rcv : IVec S6400000 32 := shapeCast S6400000 (extractStridedSlice S1x6400000 ![1, 0] E slices_S2x6400000_S1x6400000_1_0) shapeCasts_S1x6400000_S6400000
def rcvCol : IVec S6400000x1 32 := broadcastInDim S6400000x1 ![0] bcast_S6400000_S6400000x1_0 (rcv E)
/-- The same value for every edge. -/
def allE (w : BitVec 32) : FVec Ideal S6400000 .f32 := broadcastInDim S6400000 ![] bcast_S_S6400000 (constant S_ .f32 w)
def rSq : FVec Ideal S6400000 .f32 := Host.reduceAdd (mulf A A) (constant S_ .f32 0x00000000#32) reducesTo_S6400000x3_S6400000_d1 h_S_
def rInv : FVec Ideal S6400000 .f32 := Host.divf (allE 0x3F800000#32) (rSq A)
def rSix : FVec Ideal S6400000 .f32 := mulf (mulf (rInv A) (rInv A)) (rInv A)

theorem rcv_at (e : Fin 6400000) : rcv E (ix1 e) = E (ix2 1 e) := by
  unfold rcv
  refine (shapeCast_apply _ _ (ix1 e) (ix2 0 e) ?_).trans ?_
  · rw [Shape.rowMajor_val_two, Shape.rowMajor_val_one]
    show 0 * _ + e.val = e.val
    omega
  · refine congrArg E (funext fun a => ?_)
    match a with
    | 0 => rfl
    | 1 => exact Fin.ext (by show 0 + e.val = e.val; omega)

theorem rcvCol_at (e : Fin 6400000) : rcvCol E (ix2 e 0) = E (ix2 1 e) := by
  refine Eq.trans ?_ (rcv_at E e)
  unfold rcvCol
  refine congrArg (rcv E) (funext fun a => ?_)
  match a with
  | 0 => rfl

theorem allE_at (w : BitVec 32) (e : Fin 6400000) : allE w (ix1 e) = Ideal.ofBits .f32 w := rfl

/-- The squared length of edge `e`'s bond vector. -/
def sq (e : Fin 6400000) : EReal := A (ix2 e 0) * A (ix2 e 0) + A (ix2 e 1) * A (ix2 e 1) + A (ix2 e 2) * A (ix2 e 2)
theorem rSq_at (e : Fin 6400000) : rSq A (ix1 e) = sq A e := by
  unfold rSq
  rw [rowSum_at (mulf A A) e]
  rfl

/-! Elementwise operations at an index. -/

section
variable {s : Shape} (x y : FVec Ideal s .f32) (i : s.Idx)
theorem mul_at : mulf x y i = (x i * y i : EReal) := rfl
theorem add_at : addf x y i = (x i + y i : EReal) := rfl
theorem sub_at : subf x y i = (x i - y i : EReal) := rfl
theorem neg_at : Host.negf x i = (-(x i) : EReal) := rfl
theorem div_at : Host.divf x y i = Ideal.div (x i) (y i) := rfl
theorem sel_at (c : IVec s 1) : select c x y i = Scalar.select (c i) (x i) (y i) := rfl
theorem ne_at : cmpf .une x y i = Ideal.cmp .une (x i) (y i) := rfl
theorem num_at (c : IVec s 1) : uitofp (F := Ideal) .f32 c i = (((c i).toNat : ℝ) : EReal) := rfl
end

/-- The reciprocal of the squared length, and its cube. -/
def inv (e : Fin 6400000) : EReal := Ideal.div 1 (sq A e)
def six (e : Fin 6400000) : EReal := inv A e * inv A e * inv A e

theorem rInv_at (e : Fin 6400000) : rInv A (ix1 e) = inv A e := by
  unfold rInv
  rw [div_at, allE_at, Ideal.ofBits_one_f32, rSq_at]
  rfl
theorem rSix_at (e : Fin 6400000) : rSix A (ix1 e) = six A e := by
  unfold rSix
  rw [mul_at, mul_at, rInv_at]
  rfl

/-! ### The energy -/

def rPair : FVec Ideal S6400000 .f32 :=
  mulf (allE 0x3F000000#32) (subf (mulf (allE 0x40800000#32) (subf (mulf (rSix A) (rSix A)) (rSix A)))
    (mulf (allE 0xBBB38CE4#32) (uitofp .f32 (cmpf .une (rSix A) (allE 0x00000000#32)))))
def pair (e : Fin 6400000) : EReal :=
  ((1 / 2 : ℝ) : EReal) * (4 * (six A e * six A e - six A e)
    - ((-9192978125 / 262144 / 6400000 : ℝ) : EReal) * (((Ideal.cmp .une (six A e) 0).toNat : ℝ) : EReal))
theorem rPair_at (e : Fin 6400000) : rPair A (ix1 e) = pair A e := by
  unfold rPair pair
  rw [mul_at, sub_at, mul_at, sub_at, mul_at, mul_at, num_at, ne_at, rSix_at]
  simp only [allE_at]
  rw [ofBits_half, ofBits_four, ofBits_e0, Ideal.ofBits_zero_f32]

def rEnergy : FVec Ideal S_ .f32 :=
  Host.reduceAdd (Host.scatterAdd scatter_S100000_S6400000x1_S6400000_n_0_0_1 (broadcastInDim S100000 ![] bcast_S_S100000 (constant S_ .f32 0x00000000#32))
    (rcvCol E) (rPair A)) (constant S_ .f32 0x00000000#32) reducesTo_S100000_S_d0 h_S_

theorem res34_eq (m : (ℓ : Loc nD τ sig) → Buf (Elt Ideal) ℓ) (c : Dev nD) :
    Value.res_main_v34 (F := Ideal) m c = rEnergy (m ((c.tc : Thread nD τ).loc main_arg0)) (m ((c.tc : Thread nD τ).loc main_arg1)) := by
  unfold Value.res_main_v34 rEnergy rcvCol rcv rPair rSix rInv rSq allE
  rfl

/-- The energy: over the nodes, the sum of the pair energies of the edges that the node receives. -/
theorem rEnergy_at (j : S_.Idx) :
    rEnergy A E j = ∑ r : Fin 100000, ∑ e : Fin 6400000, if (E (ix2 1 e)).toInt = (r.val : Int) then pair A e else 0 := by
  unfold rEnergy
  rw [nodeSum_at]
  refine Finset.sum_congr rfl fun r _ => ?_
  rw [scatter1_at]
  have z : broadcastInDim S100000 ![] bcast_S_S100000 (constant (F := Ideal) S_ .f32 0x00000000#32) (ix1 r) = (0 : EReal) := Ideal.ofBits_zero_f32
  rw [z, zero_add]
  refine Finset.sum_congr rfl fun e _ => ?_
  rw [rcvCol_at, rPair_at]

/-! ### The forces, as the derivative of the energy -/

/-- The derivative's cotangent: one for every edge whose receiver is a node. -/
def cot : FVec Ideal S6400000 .f32 :=
  select (Host.reduce IntOp.andi (andi (cmpi .sge (rcvCol E) (broadcastInDim S6400000x1 ![] bcast_S_S6400000x1 (constantI S_ 32 0#32)))
      (cmpi .sle (rcvCol E) (broadcastInDim S6400000x1 ![0, 1] bcast_S1x1_S6400000x1_0_1 (broadcastInDim S1x1 ![1] bcast_S1_S1x1_1 (constantI S1 32 99999#32)))))
      (constantI S_ 1 1#1) reducesTo_S6400000x1_S6400000_d1 h_S_)
    (Host.gather gather_S100000_S6400000x1_S6400000_n_0_n_n_0_1_1 (broadcastInDim S100000 ![] bcast_S_S100000 (constant S_ .f32 0x3F800000#32)) (rcvCol E))
    (allE 0x00000000#32)

theorem mask_at (hE : ∀ e : Fin 6400000, 0 ≤ (E (ix2 1 e)).toInt ∧ (E (ix2 1 e)).toInt < 100000) (i : S6400000x1.Idx) :
    andi (cmpi .sge (rcvCol E) (broadcastInDim S6400000x1 ![] bcast_S_S6400000x1 (constantI S_ 32 0#32)))
      (cmpi .sle (rcvCol E) (broadcastInDim S6400000x1 ![0, 1] bcast_S1x1_S6400000x1_0_1 (broadcastInDim S1x1 ![1] bcast_S1_S1x1_1 (constantI S1 32 99999#32)))) i = 1#1 := by
  obtain ⟨e, rfl⟩ : ∃ e : Fin 6400000, i = ix2 e (0 : Fin 1) := ⟨i 0, by
    funext a
    match a with
    | 0 => rfl
    | 1 => exact Subsingleton.elim (α := Fin 1) _ _⟩
  obtain ⟨h0, h1⟩ := hE e
  show IntOp.andi (IntOp.cmpi .sge (rcvCol E (ix2 e 0)) 0#32) (IntOp.cmpi .sle (rcvCol E (ix2 e 0)) 99999#32) = 1#1
  rw [rcvCol_at]
  refine IntOp.andi_eq_one.2 ⟨IntOp.cmpi_sge.2 ?_, IntOp.cmpi_sle.2 ?_⟩
  · exact h0
  · show (E (ix2 1 e)).toInt ≤ 99999
    omega

theorem cot_at (hE : ∀ e : Fin 6400000, 0 ≤ (E (ix2 1 e)).toInt ∧ (E (ix2 1 e)).toInt < 100000) (e : Fin 6400000) : cot E (ix1 e) = (1 : EReal) := by
  unfold cot
  rw [sel_at, Host.reduce_andi_one _ _ _ _ (ix1 e) rfl (mask_at E hE), ones_at]
  rfl

def rGain : FVec Ideal S6400000 .f32 := mulf (allE 0x40800000#32) (mulf (allE 0x3F000000#32) (cot E))
def rSlope : FVec Ideal S6400000 .f32 :=
  Host.negf (mulf (mulf (mulf (addf (Host.negf (rGain E)) (mulf (rGain E) (mulf (allE 0x40000000#32) (rSix A))))
    (mulf (allE 0x40400000#32) (mulf (rInv A) (rInv A)))) (Host.divf (allE 0x3F800000#32) (mulf (rSq A) (rSq A)))) (allE 0x3F800000#32))
def rGrad : FVec Ideal S6400000x3 .f32 :=
  mulf (broadcastInDim S6400000x3 ![0] bcast_S6400000_S6400000x3_0 (rSlope A E))
    (mulf (broadcastInDim S6400000x3 ![] bcast_S_S6400000x3 (constant S_ .f32 0x40000000#32)) A)
def rForces : FVec Ideal S100000x3 .f32 :=
  Host.negf (Host.scatterAdd scatter_S100000x3_S6400000x1_S6400000x3_1_0_0_1 (broadcastInDim S100000x3 ![] bcast_S_S100000x3 (constant S_ .f32 0x00000000#32))
    (rcvCol E) (rGrad A E))

def gain : EReal := 4 * (((1 / 2 : ℝ) : EReal) * 1)
def slope (e : Fin 6400000) : EReal :=
  -((-gain + gain * (2 * six A e)) * (3 * (inv A e * inv A e)) * Ideal.div 1 (sq A e * sq A e) * 1)

theorem rSlope_at (hE : ∀ e : Fin 6400000, 0 ≤ (E (ix2 1 e)).toInt ∧ (E (ix2 1 e)).toInt < 100000) (e : Fin 6400000) :
    rSlope A E (ix1 e) = slope A e := by
  have hg : rGain E (ix1 e) = gain := by
    unfold rGain gain
    rw [mul_at, mul_at, cot_at E hE, allE_at, allE_at, ofBits_four, ofBits_half]
  unfold rSlope slope
  rw [neg_at, mul_at, mul_at, mul_at, add_at, neg_at, mul_at, mul_at, mul_at, mul_at, div_at, mul_at, hg, rSix_at, rInv_at, rSq_at]
  simp only [allE_at]
  rw [ofBits_two, ofBits_three, Ideal.ofBits_one_f32]

theorem rGrad_at (hE : ∀ e : Fin 6400000, 0 ≤ (E (ix2 1 e)).toInt ∧ (E (ix2 1 e)).toInt < 100000) (e : Fin 6400000) (o : Fin 3) :
    rGrad A E (ix2 e o) = slope A e * (2 * A (ix2 e o)) := by
  unfold rGrad
  rw [mul_at, mul_at]
  have e1 : broadcastInDim S6400000x3 ![0] bcast_S6400000_S6400000x3_0 (rSlope A E) (ix2 e o) = rSlope A E (ix1 e) := by
    refine congrArg (rSlope A E) (funext fun a => ?_)
    match a with
    | 0 => rfl
  have e2 : broadcastInDim S6400000x3 ![] bcast_S_S6400000x3 (constant (F := Ideal) S_ .f32 0x40000000#32) (ix2 e o) = (2 : EReal) := ofBits_two
  rw [e1, e2, rSlope_at A E hE]

theorem zeros3_at (r : Fin 100000) (o : Fin 3) :
    broadcastInDim S100000x3 ![] bcast_S_S100000x3 (constant (F := Ideal) S_ .f32 0x00000000#32) (ix2 r o) = (0 : EReal) := Ideal.ofBits_zero_f32

theorem rForces_at (hE : ∀ e : Fin 6400000, 0 ≤ (E (ix2 1 e)).toInt ∧ (E (ix2 1 e)).toInt < 100000) (r : Fin 100000) (o : Fin 3) :
    rForces A E (ix2 r o) = -(∑ e : Fin 6400000, if (E (ix2 1 e)).toInt = (r.val : Int) then slope A e * (2 * A (ix2 e o)) else 0) := by
  unfold rForces
  rw [neg_at, scatter3_at, zeros3_at, zero_add]
  refine congrArg (- ·) (Finset.sum_congr rfl fun e _ => ?_)
  rw [rcvCol_at, rGrad_at A E hE]

theorem res63_eq (m : (ℓ : Loc nD τ sig) → Buf (Elt Ideal) ℓ) (c : Dev nD) :
    Value.res_main_v63 (F := Ideal) m c = rForces (m ((c.tc : Thread nD τ).loc main_arg0)) (m ((c.tc : Thread nD τ).loc main_arg1)) := by
  unfold Value.res_main_v63 rForces rGrad rSlope rGain cot rcvCol rcv rSix rInv rSq allE
  rfl

/-! ### The forces in closed form -/

def rPull : FVec Ideal S6400000 .f32 :=
  Host.divf (mulf (allE 0xC1C00000#32) (subf (mulf (allE 0x40000000#32) (mulf (rSix A) (rSix A))) (rSix A))) (rSq A)
def rAnalytic : FVec Ideal S100000x3 .f32 :=
  Host.scatterAdd scatter_S100000x3_S6400000x1_S6400000x3_1_0_0_1 (broadcastInDim S100000x3 ![] bcast_S_S100000x3 (constant S_ .f32 0x00000000#32))
    (rcvCol E) (mulf (broadcastInDim S6400000x3 ![0, 1] bcast_S6400000x1_S6400000x3_0_1 (broadcastInDim S6400000x1 ![0] bcast_S6400000_S6400000x1_0 (rPull A))) A)

def pull (e : Fin 6400000) : EReal := Ideal.div (((-24 : ℝ) : EReal) * (2 * (six A e * six A e) - six A e)) (sq A e)

theorem rPull_at (e : Fin 6400000) : rPull A (ix1 e) = pull A e := by
  unfold rPull pull
  rw [div_at, mul_at, sub_at, mul_at, mul_at, rSix_at, rSq_at]
  simp only [allE_at]
  rw [ofBits_m24, ofBits_two]

theorem rAnalytic_at (r : Fin 100000) (o : Fin 3) :
    rAnalytic A E (ix2 r o) = ∑ e : Fin 6400000, if (E (ix2 1 e)).toInt = (r.val : Int) then pull A e * A (ix2 e o) else 0 := by
  unfold rAnalytic
  rw [scatter3_at, zeros3_at, zero_add]
  refine Finset.sum_congr rfl fun e _ => ?_
  have e1 : broadcastInDim S6400000x3 ![0, 1] bcast_S6400000x1_S6400000x3_0_1 (broadcastInDim S6400000x1 ![0] bcast_S6400000_S6400000x1_0 (rPull A)) (ix2 e o)
      = rPull A (ix1 e) := by
    refine congrArg (rPull A) (funext fun a => ?_)
    match a with
    | 0 => rfl
  rw [rcvCol_at, mul_at, e1, rPull_at]

/-- The reference's run, its three results by these names. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34) = rEnergy (m ((c.tc : Thread nD τ).loc main_arg0)) (m ((c.tc : Thread nD τ).loc main_arg1))
      ∧ r.2.mem ((c.tc : Thread nD τ).loc main_v63) = rForces (m ((c.tc : Thread nD τ).loc main_arg0)) (m ((c.tc : Thread nD τ).loc main_arg1))
      ∧ r.2.mem ((c.tc : Thread nD τ).loc main_v82) = rAnalytic (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (res34_eq m c), (h c).2.1.trans (res63_eq m c),
      (h c).2.2.1.trans (by unfold rAnalytic rPull rcvCol rcv rSix rInv rSq allE; rfl), (h c).2.2.2⟩)
    (Value.run m ρ)

end Cert.Proof.Reference

end
-- ==== Proof.Edge.lean ====
/-
  One edge's terms over the real numbers: the kernel's spelling of the pair force and energy, and the reference's, at a finite
  edge vector; where the vector is zero, the forces vanish and the energies are minus infinity.
-/
module

public import proofs.«01_k».proof.Proof.TileSum
public import proofs.«01_k».proof.Proof.RefSum

@[expose] public section

noncomputable section

open scoped BigOperators

namespace Cert.Proof.Edge

open Idealize.ShloMosaic
open Cert.Proof.Tile (kInv kSix kCoef)

theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A sum with a term that is minus infinity is minus infinity. -/
theorem sum_bot {ι : Type} (S : Finset ι) (f : ι → EReal) (a : ι) (ha : a ∈ S) (h : f a = ⊥) : ∑ i ∈ S, f i = ⊥ := by
  classical
  rw [← Finset.add_sum_erase S f ha, h, EReal.bot_add]

theorem div_one_zero : Ideal.div 1 (0 : EReal) = ⊤ := by simp [Ideal.div]
theorem div_coe (x y : ℝ) (h : y ≠ 0) : Ideal.div (x : EReal) (y : EReal) = ((x * y⁻¹ : ℝ) : EReal) := by
  unfold Ideal.div
  rw [if_neg (by exact_mod_cast h), EReal.coe_mul, EReal.coe_inv]

/-- The force's coefficient times a component, over the reals (the inverse of zero is zero). -/
def force (s b : ℝ) : ℝ := (2 * (s⁻¹ * s⁻¹ * s⁻¹ * (s⁻¹ * s⁻¹ * s⁻¹)) - s⁻¹ * s⁻¹ * s⁻¹) * s⁻¹ * b
/-- The energy before its factor four. -/
def energy (s : ℝ) : ℝ := s⁻¹ * s⁻¹ * s⁻¹ * (s⁻¹ * s⁻¹ * s⁻¹) - s⁻¹ * s⁻¹ * s⁻¹

variable (x y z b : ℝ)

theorem sq_coe : (x : EReal) * x + y * y + z * z = ((x * x + y * y + z * z : ℝ) : EReal) := by push_cast; rfl

theorem comp_zero (h : x * x + y * y + z * z = 0) : x = 0 ∧ y = 0 ∧ z = 0 := by
  refine ⟨?_, ?_, ?_⟩ <;> nlinarith [mul_self_nonneg x, mul_self_nonneg y, mul_self_nonneg z]

theorem kInv_ne (h : x * x + y * y + z * z ≠ 0) : kInv x y z = (((x * x + y * y + z * z)⁻¹ : ℝ) : EReal) := by
  unfold kInv
  rw [sq_coe]
  refine (div_coe 1 _ h).trans ?_
  rw [one_mul]
theorem kInv_zero (h : x * x + y * y + z * z = 0) : kInv x y z = ⊤ := by
  unfold kInv
  rw [sq_coe, h]
  exact div_one_zero

theorem kForce_coe (hb : x * x + y * y + z * z = 0 → b = 0) : kCoef x y z * b = ((force (x * x + y * y + z * z) b : ℝ) : EReal) := by
  by_cases h : x * x + y * y + z * z = 0
  · rw [hb h]; unfold force; simp
  · unfold kCoef kSix force
    rw [kInv_ne x y z h]
    push_cast
    rfl

theorem kEn_ne (h : x * x + y * y + z * z ≠ 0) :
    kSix x y z * kSix x y z - kSix x y z = ((energy (x * x + y * y + z * z) : ℝ) : EReal) := by
  unfold kSix energy
  rw [kInv_ne x y z h]
  push_cast
  rfl
theorem kEn_zero (h : x * x + y * y + z * z = 0) : kSix x y z * kSix x y z - kSix x y z = ⊥ := by
  unfold kSix
  rw [kInv_zero x y z h, EReal.top_mul_top, EReal.top_mul_top, EReal.top_mul_top]
  rfl

open Cert.ReferenceIdeal

variable (A : FVec Ideal S6400000x3 .f32) (e : Fin 6400000)
  (hx : A (ix2 e 0) = (x : EReal)) (hy : A (ix2 e 1) = (y : EReal)) (hz : A (ix2 e 2) = (z : EReal))

include hx hy hz

theorem sq_eq : Reference.sq A e = ((x * x + y * y + z * z : ℝ) : EReal) := by
  unfold Reference.sq
  rw [hx, hy, hz]; exact sq_coe x y z

theorem inv_ne (h : x * x + y * y + z * z ≠ 0) : Reference.inv A e = (((x * x + y * y + z * z)⁻¹ : ℝ) : EReal) := by
  unfold Reference.inv
  rw [sq_eq x y z A e hx hy hz]
  refine (div_coe 1 _ h).trans ?_
  rw [one_mul]
theorem inv_zero (h : x * x + y * y + z * z = 0) : Reference.inv A e = ⊤ := by
  unfold Reference.inv
  rw [sq_eq x y z A e hx hy hz, h]
  exact div_one_zero

theorem slope_coe (hb : x * x + y * y + z * z = 0 → b = 0) :
    Reference.slope A e * (2 * (b : EReal)) = ((-12 * force (x * x + y * y + z * z) b : ℝ) : EReal) := by
  by_cases h : x * x + y * y + z * z = 0
  · rw [hb h]; unfold force; simp
  · unfold Reference.slope Reference.six Reference.gain
    have h2 : (2 : EReal) = ((2 : ℝ) : EReal) := by norm_cast
    have h3 : (3 : EReal) = ((3 : ℝ) : EReal) := by norm_cast
    have h4 : (4 : EReal) = ((4 : ℝ) : EReal) := by norm_cast
    have h1 : (1 : EReal) = ((1 : ℝ) : EReal) := by norm_cast
    rw [inv_ne x y z A e hx hy hz h, sq_eq x y z A e hx hy hz, ← EReal.coe_mul (x * x + y * y + z * z), h2, h3, h4, h1, div_coe _ _ (mul_ne_zero h h)]
    generalize x * x + y * y + z * z = s at h
    simp only [← EReal.coe_mul, ← EReal.coe_add, ← EReal.coe_neg]
    refine congrArg _ ?_
    unfold force
    field_simp
    ring

theorem pull_coe (hb : x * x + y * y + z * z = 0 → b = 0) :
    Reference.pull A e * (b : EReal) = ((-24 * force (x * x + y * y + z * z) b : ℝ) : EReal) := by
  by_cases h : x * x + y * y + z * z = 0
  · rw [hb h]; unfold force; simp
  · unfold Reference.pull Reference.six
    have h2 : (2 : EReal) = ((2 : ℝ) : EReal) := by norm_cast
    rw [inv_ne x y z A e hx hy hz h, sq_eq x y z A e hx hy hz, h2]
    generalize x * x + y * y + z * z = s at h
    simp only [← EReal.coe_mul, ← EReal.coe_sub]
    rw [div_coe _ _ h, ← EReal.coe_mul]
    refine congrArg _ ?_
    unfold force
    ring

theorem pair_ne (h : x * x + y * y + z * z ≠ 0) :
    Reference.pair A e = ((1 / 2 * (4 * energy (x * x + y * y + z * z) - -9192978125 / 262144 / 6400000) : ℝ) : EReal) := by
  unfold Reference.pair Reference.six
  have h4 : (4 : EReal) = ((4 : ℝ) : EReal) := by norm_cast
  rw [inv_ne x y z A e hx hy hz h, h4]
  generalize x * x + y * y + z * z = s at h
  have hc : Ideal.cmp .une (((s⁻¹ : ℝ) : EReal) * ((s⁻¹ : ℝ) : EReal) * ((s⁻¹ : ℝ) : EReal)) 0 = 1#1 := by
    have : ((s⁻¹ : ℝ) : EReal) * ((s⁻¹ : ℝ) : EReal) * ((s⁻¹ : ℝ) : EReal) ≠ 0 := by
      rw [← EReal.coe_mul, ← EReal.coe_mul]
      have : s⁻¹ * s⁻¹ * s⁻¹ ≠ 0 := mul_ne_zero (mul_ne_zero (inv_ne_zero h) (inv_ne_zero h)) (inv_ne_zero h)
      exact_mod_cast this
    simp [Ideal.cmp, this]
  rw [hc]
  simp only [← EReal.coe_mul, ← EReal.coe_sub]
  refine congrArg _ ?_
  unfold energy
  norm_num
theorem pair_zero (h : x * x + y * y + z * z = 0) : Reference.pair A e = ⊥ := by
  unfold Reference.pair Reference.six
  rw [inv_zero x y z A e hx hy hz h, EReal.top_mul_top, EReal.top_mul_top, EReal.top_mul_top]
  rw [show (⊤ - ⊤ : EReal) = ⊥ from rfl, show (4 : EReal) = ((4 : ℝ) : EReal) by norm_cast,
    EReal.coe_mul_bot_of_pos (by norm_num), ← EReal.coe_mul, EReal.bot_sub, EReal.coe_mul_bot_of_pos (by norm_num)]

end Cert.Proof.Edge

end
-- ==== Proof.Meet.lean ====
/-
  The kernel's sums over the edges and the reference's are one: node by node the forces, in total the energy.
-/
module

public import proofs.«01_k».proof.Proof.Combined
public import proofs.«01_k».proof.Proof.Edge

@[expose] public section

noncomputable section

open scoped BigOperators

namespace Cert.Proof.Meet

open Cert.ReferenceIdeal
open Idealize.ShloMosaic
open Cert.Proof.Edge
open Cert.Proof.Tile (bvAt dstAt con kEn kForce kCoef kSix total energyTotal)
open Cert.Proof.Reference (rForces rAnalytic rEnergy)

variable (A : FVec Ideal S6400000x3 .f32) (E : IVec S2x6400000 32) (bv : Cert.KernelIdeal.S19200000.Idx → EReal)
  (dst : Cert.KernelIdeal.S6400000.Idx → BitVec 32) (a : S6400000x3.Idx → ℝ)

/-- The squared length of edge `e`'s vector, over the reals. -/
def len (e : Fin 6400000) : ℝ :=
  a (ix2 e 0) * a (ix2 e 0) + a (ix2 e 1) * a (ix2 e 1) + a (ix2 e 2) * a (ix2 e 2)

/-- A receiver counted from its group's first one. -/
theorem row_iff (v : BitVec 32) (g q r o : ℕ) (hv : 0 ≤ v.toInt ∧ v.toInt < 100000) (ho : o < 3) (hr : r < 100000) (hq : q < 101376)
    (h : g * 101376 + q = 3 * r + o) :
    ((v - BitVec.ofNat 32 (33792 * g)).toNat < 33792 ∧ (v - BitVec.ofNat 32 (33792 * g)).toNat = q / 3) ↔ v.toInt = (r : Int) := by
  have hn : v.toInt = (v.toNat : Int) := by
    have := v.isLt
    rw [BitVec.toInt_eq_toNat_cond] at hv ⊢
    split_ifs at hv ⊢ <;> omega
  have hg : g < 3 := by omega
  rw [hn] at hv ⊢
  rw [BitVec.toNat_sub, BitVec.toNat_ofNat]
  omega

variable (hbv : ∀ (e : Fin 6400000) (o : Fin 3), bvAt bv e.val o.val = A (ix2 e o))
  (hdst : ∀ e : Fin 6400000, dstAt dst e.val = E (ix2 1 e)) (ha : ∀ i, A i = (a i : EReal))
  (hE : ∀ e : Fin 6400000, 0 ≤ (E (ix2 1 e)).toInt ∧ (E (ix2 1 e)).toInt < 100000)

theorem zero_of (e : Fin 6400000) (o : Fin 3) (h : len a e = 0) : a (ix2 e o) = 0 := by
  obtain ⟨h0, h1, h2⟩ := comp_zero _ _ _ h
  match o with
  | 0 => exact h0
  | 1 => exact h1
  | 2 => exact h2

include hbv ha in
theorem kForce_at (e : Fin 6400000) (o : Fin 3) : kForce bv e.val o.val = ((force (len a e) (a (ix2 e o)) : ℝ) : EReal) := by
  unfold kForce
  have h0 := hbv e 0
  have h1 := hbv e 1
  have h2 := hbv e 2
  rw [ha] at h0 h1 h2
  rw [hbv e o, ha, show bvAt bv e.val 0 = _ from h0, show bvAt bv e.val 1 = _ from h1, show bvAt bv e.val 2 = _ from h2]
  exact kForce_coe _ _ _ _ (zero_of a e o)

/-- The sum of the receiver's forces, before the factor twelve. -/
def pulls (r : ℕ) (o : Fin 3) : ℝ := ∑ e : Fin 6400000, if (E (ix2 1 e)).toInt = (r : Int) then force (len a e) (a (ix2 e o)) else 0

include hbv hdst ha hE in
theorem total_eq (r : Fin 100000) (o : Fin 3) (g q : ℕ) (hq : q < 101376) (h : g * 101376 + q = 3 * r.val + o.val) :
    total bv dst g q = ((pulls E a r.val o : ℝ) : EReal) := by
  unfold total pulls
  rw [Finset.sum_range, coe_sum]
  refine Finset.sum_congr rfl fun e _ => ?_
  unfold con
  rw [hdst e]
  have hm : q % 3 = o.val := by have := o.isLt; omega
  by_cases hr : (E (ix2 1 e)).toInt = (r.val : Int)
  · rw [if_pos ((row_iff _ g q r.val o.val (hE e) o.isLt r.isLt hq h).2 hr), if_pos hr, hm]
    exact kForce_at A bv a hbv ha e o
  · rw [if_neg (fun hh => hr ((row_iff _ g q r.val o.val (hE e) o.isLt r.isLt hq h).1 hh)), if_neg hr]
    rfl

theorem twelve : (12 : EReal) = ((12 : ℝ) : EReal) := by
  rw [show (12 : EReal) = ((12 : ℕ) : EReal) from rfl, ← EReal.coe_natCast]
  norm_num

include ha hE in
theorem forces_eq (r : Fin 100000) (o : Fin 3) : rForces A E (ix2 r o) = ((pulls E a r.val o : ℝ) : EReal) * 12 := by
  rw [Reference.rForces_at A E hE]
  have e1 : (∑ e : Fin 6400000, if (E (ix2 1 e)).toInt = (r.val : Int) then Reference.slope A e * (2 * A (ix2 e o)) else 0)
      = ((-12 * pulls E a r.val o : ℝ) : EReal) := by
    unfold pulls
    rw [Finset.mul_sum, coe_sum]
    refine Finset.sum_congr rfl fun e _ => ?_
    by_cases hr : (E (ix2 1 e)).toInt = (r.val : Int)
    · rw [if_pos hr, if_pos hr, ha (ix2 e o)]
      exact slope_coe (a (ix2 e 0)) (a (ix2 e 1)) (a (ix2 e 2)) (a (ix2 e o)) A e (ha _) (ha _) (ha _) (zero_of a e o)
    · rw [if_neg hr, if_neg hr, mul_zero, EReal.coe_zero]
  rw [e1, twelve, ← EReal.coe_mul, ← EReal.coe_neg]
  refine congrArg _ ?_
  ring

include ha in
theorem analytic_eq (r : Fin 100000) (o : Fin 3) :
    rAnalytic A E (ix2 r o) = ((pulls E a r.val o : ℝ) : EReal) * 12 * ((-2 : ℝ) : EReal) := by
  rw [Reference.rAnalytic_at]
  have e1 : (∑ e : Fin 6400000, if (E (ix2 1 e)).toInt = (r.val : Int) then Reference.pull A e * A (ix2 e o) else 0)
      = ((-24 * pulls E a r.val o : ℝ) : EReal) := by
    unfold pulls
    rw [Finset.mul_sum, coe_sum]
    refine Finset.sum_congr rfl fun e _ => ?_
    by_cases hr : (E (ix2 1 e)).toInt = (r.val : Int)
    · rw [if_pos hr, if_pos hr, ha (ix2 e o)]
      exact pull_coe (a (ix2 e 0)) (a (ix2 e 1)) (a (ix2 e 2)) (a (ix2 e o)) A e (ha _) (ha _) (ha _) (zero_of a e o)
    · rw [if_neg hr, if_neg hr, mul_zero, EReal.coe_zero]
  rw [e1, twelve, ← EReal.coe_mul, ← EReal.coe_mul]
  refine congrArg _ ?_
  ring

/-! ### The energy -/

include hbv ha in
theorem kEn_at (e : Fin 6400000) : kEn bv e.val
    = kSix (a (ix2 e 0)) (a (ix2 e 1)) (a (ix2 e 2)) * kSix (a (ix2 e 0)) (a (ix2 e 1)) (a (ix2 e 2)) - kSix (a (ix2 e 0)) (a (ix2 e 1)) (a (ix2 e 2)) := by
  have h0 := hbv e 0
  have h1 := hbv e 1
  have h2 := hbv e 2
  rw [ha] at h0 h1 h2
  unfold kEn
  rw [show bvAt bv e.val 0 = _ from h0, show bvAt bv e.val 1 = _ from h1, show bvAt bv e.val 2 = _ from h2]

/-- The node of an edge. -/
def node (e : Fin 6400000) : Fin 100000 := ⟨(E (ix2 1 e)).toInt.toNat, by have := hE e; omega⟩

theorem node_iff (e : Fin 6400000) (r : Fin 100000) : (E (ix2 1 e)).toInt = (r.val : Int) ↔ node E hE e = r := by
  have := hE e
  unfold node
  rw [Fin.ext_iff]
  show _ ↔ (E (ix2 1 e)).toInt.toNat = r.val
  omega

include hE in
/-- Every edge has exactly one receiver. -/
theorem by_node (f : Fin 6400000 → ℝ) : (∑ r : Fin 100000, ∑ e : Fin 6400000, if (E (ix2 1 e)).toInt = (r.val : Int) then f e else 0) = ∑ e, f e := by
  rw [Finset.sum_comm]
  refine Finset.sum_congr rfl fun e _ => ?_
  have e1 : ∀ r : Fin 100000, (if (E (ix2 1 e)).toInt = (r.val : Int) then f e else 0) = if node E hE e = r then f e else 0 := fun r => by
    rw [if_congr (node_iff E hE e r) rfl rfl]
  rw [Finset.sum_congr rfl (fun r _ => e1 r), Finset.sum_ite_eq, if_pos (Finset.mem_univ _)]

include hbv ha hE in
theorem energy_eq (j : S_.Idx) : ((1 / 2 : ℝ) : EReal) * ((energyTotal bv + energyTotal bv + energyTotal bv) * 4 * ((1 / 3 : ℝ) : EReal) - ((-9192978125 / 262144 : ℝ) : EReal))
    = rEnergy A E j := by
  rw [Reference.rEnergy_at]
  have h4 : (4 : EReal) = ((4 : ℝ) : EReal) := by norm_cast
  unfold energyTotal
  rw [Finset.sum_range]
  by_cases hz : ∃ e, len a e = 0
  · obtain ⟨e, he⟩ := hz
    have k : (∑ e : Fin 6400000, kEn bv e.val) = ⊥ :=
      sum_bot _ _ e (Finset.mem_univ _) ((kEn_at A bv a hbv ha e).trans (kEn_zero _ _ _ he))
    have k' : (∑ r : Fin 100000, ∑ e : Fin 6400000, if (E (ix2 1 e)).toInt = (r.val : Int) then Reference.pair A e else 0) = ⊥ := by
      refine sum_bot _ _ (node E hE e) (Finset.mem_univ _) (sum_bot _ _ e (Finset.mem_univ _) ?_)
      rw [if_pos ((node_iff E hE e _).2 rfl)]
      exact pair_zero _ _ _ A e (ha _) (ha _) (ha _) he
    rw [k, k', h4, EReal.bot_add, EReal.bot_add, EReal.bot_mul_coe_of_pos (by norm_num), EReal.bot_mul_coe_of_pos (by norm_num), EReal.bot_sub,
      EReal.coe_mul_bot_of_pos (by norm_num)]
  · have hz' : ∀ e, len a e ≠ 0 := fun e he => hz ⟨e, he⟩
    have k : (∑ e : Fin 6400000, kEn bv e.val) = ((∑ e : Fin 6400000, energy (len a e) : ℝ) : EReal) := by
      rw [coe_sum]
      exact Finset.sum_congr rfl fun e _ => (kEn_at A bv a hbv ha e).trans (kEn_ne _ _ _ (hz' e))
    have k' : (∑ r : Fin 100000, ∑ e : Fin 6400000, if (E (ix2 1 e)).toInt = (r.val : Int) then Reference.pair A e else 0)
        = ((∑ e : Fin 6400000, (1 / 2 * (4 * energy (len a e) - -9192978125 / 262144 / 6400000)) : ℝ) : EReal) := by
      rw [← by_node E hE, coe_sum]
      refine Finset.sum_congr rfl fun r _ => ?_
      rw [coe_sum]
      refine Finset.sum_congr rfl fun e _ => ?_
      by_cases hr : (E (ix2 1 e)).toInt = (r.val : Int)
      · rw [if_pos hr, if_pos hr]
        exact pair_ne _ _ _ A e (ha _) (ha _) (ha _) (hz' e)
      · rw [if_neg hr, if_neg hr]; rfl
    rw [k, k', h4, ← Finset.mul_sum, Finset.sum_sub_distrib, ← Finset.mul_sum, Finset.sum_const, Finset.card_univ, Fintype.card_fin, nsmul_eq_mul]
    simp only [← EReal.coe_mul, ← EReal.coe_sub, ← EReal.coe_add]
    refine congrArg _ ?_
    generalize (∑ e : Fin 6400000, energy (len a e)) = S
    norm_num
    ring

end Cert.Proof.Meet

end
-- ==== Proof.Result.lean ====
/-
  The value claim: what the precondition says of the arguments, what the kernel's last host steps leave in the result buffers, and
  the two runs side by side.
-/
module

public import proofs.«01_k».proof.Proof.Meet
public import proofs.«01_k».proof.Proof.Frames
public import proofs.«01_k».proof.Proof.Reference
public import Idealize.ShloMosaic.Lib.ReduceAll

@[expose] public section

noncomputable section

open scoped BigOperators

namespace Cert.Proof.Result

open Idealize.ShloMosaic Idealize.ShloMosaic.StableHlo Idealize.SL.Sem

/-! ## The precondition -/

section Pre

open Cert.Pre_drawn Cert.Pre_drawn.Gen

variable (A : FVec Ideal S6400000x3 .f32) (E : IVec S2x6400000 32)

local instance : Subsingleton S_.Idx := ⟨fun _ _ => funext fun b => b.elim0⟩

def rcv : IVec S6400000 32 := shapeCast S6400000 (extractStridedSlice S1x6400000 ![1, 0] E Facts.slices_S2x6400000_S1x6400000_1_0) Facts.shapeCasts_S1x6400000_S6400000
theorem rcv_at (e : Fin 6400000) : rcv E (ix1 e) = E (ix2 1 e) := by
  unfold rcv
  refine (shapeCast_apply _ _ (ix1 e) (ix2 0 e) ?_).trans ?_
  · rw [Shape.rowMajor_val_two, Shape.rowMajor_val_one]
    show 0 * _ + e.val = e.val
    omega
  · refine congrArg E (funext fun a => ?_)
    match a with
    | 0 => rfl
    | 1 => exact Fin.ext (by show 0 + e.val = e.val; omega)

theorem infty : Ideal.ofBits .f32 0x7F800000#32 = (⊤ : EReal) := by simp [Ideal.ofBits, Ideal.ieee]

theorem finite_of (x : EReal) (h : max x (-x) < ⊤) : ∃ a : ℝ, x = (a : EReal) := by
  induction x with
  | bot => simp at h
  | top => simp at h
  | coe a => exact ⟨a, rfl⟩

theorem drawn_iff (h : Cert.Pre_drawn.fn (F := Ideal) A E = fun _ => 1#1) :
    (∀ i, ∃ a : ℝ, A i = (a : EReal)) ∧ ∀ e : Fin 6400000, 0 ≤ (E (ix2 1 e)).toInt ∧ (E (ix2 1 e)).toInt < 100000 := by
  have h0 : Cert.Pre_drawn.fn (F := Ideal) A E (fun b => b.elim0) = 1#1 := congrFun h _
  unfold Cert.Pre_drawn.fn at h0
  obtain ⟨h1, hlt⟩ := IntOp.andi_eq_one.1 h0
  obtain ⟨hfin, hge⟩ := IntOp.andi_eq_one.1 h1
  have f := Host.reduce_andi_all _ _ _ _ _ hfin
  have g := Host.reduce_andi_all _ _ _ _ _ hge
  have l := Host.reduce_andi_all _ _ _ _ _ hlt
  refine ⟨fun i => finite_of _ ?_, fun e => ?_⟩
  · have fi : Ideal.cmp .olt (max (A i) (-(A i))) (Ideal.ofBits .f32 0x7F800000#32) = 1#1 := f i
    rw [infty] at fi
    by_contra hc
    have : Ideal.cmp .olt (max (A i) (-(A i))) ⊤ = 0#1 := by simp only [Ideal.cmp, decide_eq_false hc]; rfl
    rw [this] at fi
    exact absurd fi (by decide)
  · have ge : IntOp.cmpi .sge (rcv E (ix1 e)) 0#32 = 1#1 := g (ix1 e)
    have le : IntOp.cmpi .slt (rcv E (ix1 e)) 100000#32 = 1#1 := l (ix1 e)
    rw [rcv_at] at ge le
    have ge' := IntOp.cmpi_sge.1 ge
    have le' := IntOp.cmpi_slt.1 le
    exact ⟨by simpa using ge', by simpa using le'⟩

end Pre

/-! ## What the kernel leaves -/

open Cert.KernelIdeal Cert.KernelIdeal.Gen
open Cert.Proof.Tile

variable (m : (ℓ : Loc nD τ sig) → Buf (Elt Ideal) ℓ)

abbrev arg0 (c : Dev nD) : FVec Ideal S6400000x3 .f32 := m ((c.tc : Thread nD τ).loc main_arg0)
abbrev arg1 (c : Dev nD) : IVec S2x6400000 32 := m ((c.tc : Thread nD τ).loc main_arg1)

theorem bvA_eq (c : Dev nD) : bvA m c = shapeCast S19200000 (arg0 m c) shapeCasts_S6400000x3_S19200000 := by
  unfold bvA VA op0 op1 op2
  rw [reshape_result_ne (h := by decide), unary_result_ne (h := by decide), reshape_result]
  rfl
theorem dstA_eq (c : Dev nD) : dstA m c = rcv (arg1 m c) := by
  unfold dstA VA op0 op1 op2
  rw [reshape_result, unary_result, reshape_result_ne (h := by decide)]
  rfl

theorem bvAt_eq (c : Dev nD) (e : Fin 6400000) (o : Fin 3) : bvAt (bvA m c) e.val o.val = arg0 m c (ix2 e o) := by
  unfold bvAt
  rw [bvA_eq]
  refine shapeCast_apply _ _ _ (ix2 e o) ?_
  rw [Shape.rowMajor_val_two, Shape.rowMajor_val_one, ix_val]
  have := e.isLt
  have := o.isLt
  show e.val * 3 + o.val = (3 * e.val + o.val) % 19200000
  omega

theorem dstAt_eq (c : Dev nD) (e : Fin 6400000) : dstAt (dstA m c) e.val = arg1 m c (ix2 1 e) := by
  unfold dstAt
  rw [dstA_eq]
  refine Eq.trans ?_ (rcv_at (arg1 m c) e)
  refine congrArg (rcv (arg1 m c)) (funext fun b => ?_)
  match b with
  | 0 => exact Fin.ext ((ix_val _ _ _).trans (Nat.mod_eq_of_lt e.isLt))

theorem inj {a b : Ref sig .tc} (h : a ≠ b) : (Proc.devRef .tc a : DevRef τ sig) ≠ Proc.devRef .tc b := fun e => h (Proc.devRef_injective _ e)

/-- The tiles' arrays, at the combining call's shapes. -/
def P4 (c : Dev nD) : S32x101376.Idx → EReal := shapeCast S32x101376 (partials (F := Ideal) (bvA m c) (dstA m c)) shapeCasts_S2x16x101376_S32x101376
def E5 (c : Dev nD) : S1x512.Idx → EReal := shapeCast S1x512 (energies (F := Ideal) (bvA m c) (dstA m c)) shapeCasts_S2x16x16_S1x512

theorem VC_v4 (c : Dev nD) : VC m c (Proc.devRef .tc main_v4) = P4 m c := by
  unfold VC op4 op5
  rw [reshape_result_ne (h := by decide), reshape_result, VB_p]
  rfl
theorem VC_v5 (c : Dev nD) : VC m c (Proc.devRef .tc main_v5) = E5 m c := by
  unfold VC op4 op5
  rw [reshape_result, reshape_result_ne (h := by decide), VB_e]
  rfl

theorem VD_f (c : Dev nD) : VD m c (Proc.devRef .tc main_v6_0) = forcesOf (F := Ideal) (P4 m c) := by
  unfold VD after1
  rw [Function.update_of_ne (inj (by decide)), Function.update_of_ne (inj (by decide)), Function.update_self, VC_v4]
theorem VD_a (c : Dev nD) : VD m c (Proc.devRef .tc main_v6_1) = analyticOf (F := Ideal) (P4 m c) := by
  unfold VD after1
  rw [Function.update_of_ne (inj (by decide)), Function.update_self, VC_v4]
theorem VD_e (c : Dev nD) : VD m c (Proc.devRef .tc main_v6_2) = energyOf (F := Ideal) (E5 m c) := by
  unfold VD after1
  rw [Function.update_self, VC_v5]

/-- The first 300000 elements of the three groups, three to a node. -/
def nodes (X : S3x101376.Idx → EReal) : S100000x3.Idx → EReal :=
  shapeCast S100000x3 (extractStridedSlice S300000 ![0] (shapeCast S304128 X shapeCasts_S3x101376_S304128) slices_S304128_S300000_0) shapeCasts_S300000_S100000x3

theorem VE_v9 (c : Dev nD) : VE m c (Proc.devRef .tc main_v9) = nodes (forcesOf (F := Ideal) (P4 m c)) := by
  unfold VE op7 op8 op9 op10 op11 op12 op13
  rw [reshape_result_ne (h := by decide), reshape_result_ne (h := by decide), unary_result_ne (h := by decide), reshape_result_ne (h := by decide),
    reshape_result, unary_result, reshape_result, VD_f]
  rfl
theorem VE_v12 (c : Dev nD) : VE m c (Proc.devRef .tc main_v12) = nodes (analyticOf (F := Ideal) (P4 m c)) := by
  unfold VE op7 op8 op9 op10 op11 op12 op13
  rw [reshape_result_ne (h := by decide), reshape_result, unary_result, reshape_result,
    reshape_result_ne (h := by decide), unary_result_ne (h := by decide), reshape_result_ne (h := by decide), VD_a]
  rfl
theorem VE_v13 (c : Dev nD) : VE m c (Proc.devRef .tc main_v13) = shapeCast S_ (energyOf (F := Ideal) (E5 m c)) shapeCasts_S1x1_S_ := by
  unfold VE op7 op8 op9 op10 op11 op12 op13
  rw [reshape_result, reshape_result_ne (h := by decide), unary_result_ne (h := by decide), reshape_result_ne (h := by decide),
    reshape_result_ne (h := by decide), unary_result_ne (h := by decide), reshape_result_ne (h := by decide), VD_e]
  rfl

theorem nodes_at (X : S3x101376.Idx → EReal) (r : Fin 100000) (o : Fin 3) :
    ∃ (g : Fin 3) (q : Fin 101376), g.val * 101376 + q.val = 3 * r.val + o.val ∧ nodes X (ix2 r o) = X (ix2 g q) := by
  have hr := r.isLt
  have ho := o.isLt
  refine ⟨⟨(3 * r.val + o.val) / 101376, by omega⟩, ⟨(3 * r.val + o.val) % 101376, by omega⟩, by show _ / _ * _ + _ % _ = _; omega, ?_⟩
  unfold nodes
  refine (shapeCast_apply _ _ (ix2 r o) (ix1 (⟨3 * r.val + o.val, by omega⟩ : Fin 300000)) ?_).trans ?_
  · rw [Shape.rowMajor_val_two, Shape.rowMajor_val_one]
    show 3 * r.val + o.val = r.val * 3 + o.val
    omega
  refine shapeCast_apply _ _ _ _ ?_
  rw [Shape.rowMajor_val_two, Shape.rowMajor_val_one]
  show (3 * r.val + o.val) / 101376 * 101376 + (3 * r.val + o.val) % 101376 = 0 + (3 * r.val + o.val)
  omega

/-! ## The two runs -/

theorem ix2_of (i : S100000x3.Idx) : ∃ (r : Fin 100000) (o : Fin 3), i = ix2 r o :=
  ⟨i 0, i 1, funext fun b => match b with | 0 => rfl | 1 => rfl⟩

section Values

variable (c : Dev nD) (h : Cert.Pre_drawn.fn (F := Ideal) (arg0 m c) (arg1 m c) = fun _ => 1#1)
include h

theorem forces : VE m c (Proc.devRef .tc main_v9) = Reference.rForces (arg0 m c) (arg1 m c) := by
  obtain ⟨hA, hE⟩ := drawn_iff _ _ h
  choose a ha using hA
  rw [VE_v9]
  refine funext fun i => ?_
  obtain ⟨r, o, rfl⟩ := ix2_of i
  obtain ⟨g, q, hgq, e⟩ := nodes_at (forcesOf (F := Ideal) (P4 m c)) r o
  rw [e, Meet.forces_eq _ _ a ha hE]
  unfold P4
  rw [forces_at]
  exact congrArg (· * (12 : EReal)) (Meet.total_eq _ _ _ _ a (bvAt_eq m c) (dstAt_eq m c) ha hE r o g.val q.val q.isLt hgq)

theorem analytic : VE m c (Proc.devRef .tc main_v12) = Reference.rAnalytic (arg0 m c) (arg1 m c) := by
  obtain ⟨hA, hE⟩ := drawn_iff _ _ h
  choose a ha using hA
  rw [VE_v12]
  refine funext fun i => ?_
  obtain ⟨r, o, rfl⟩ := ix2_of i
  obtain ⟨g, q, hgq, e⟩ := nodes_at (analyticOf (F := Ideal) (P4 m c)) r o
  rw [e, Meet.analytic_eq _ _ a ha]
  unfold P4
  rw [analytic_at]
  exact congrArg (· * (12 : EReal) * ((-2 : ℝ) : EReal)) (Meet.total_eq _ _ _ _ a (bvAt_eq m c) (dstAt_eq m c) ha hE r o g.val q.val q.isLt hgq)

theorem energy : VE m c (Proc.devRef .tc main_v13) = Reference.rEnergy (arg0 m c) (arg1 m c) := by
  obtain ⟨hA, hE⟩ := drawn_iff _ _ h
  choose a ha using hA
  rw [VE_v13]
  refine funext fun i => ?_
  refine (shapeCast_apply _ _ i (ix2 0 0) ?_).trans ?_
  · have h1 : (S_.rowMajor i).val < 1 := (S_.rowMajor i).isLt
    have h2 : (S1x1.rowMajor (ix2 0 0)).val < 1 := (S1x1.rowMajor (ix2 0 0)).isLt
    exact (Nat.lt_one_iff.1 h2).trans (Nat.lt_one_iff.1 h1).symm
  unfold E5
  rw [energy_at]
  exact Meet.energy_eq _ _ _ a (bvAt_eq m c) ha hE i

end Values

theorem algebraic : Cert.algebraic_KernelIdeal_ReferenceIdeal_pre_drawn := fun m g m' g' hp hm =>
  ⟨fun c => VE m c (Proc.devRef .tc main_v13), fun c => VE m c (Proc.devRef .tc main_v9), fun c => VE m c (Proc.devRef .tc main_v12),
    (θ_run (defs (F := Ideal)) (threads (F := Ideal)) ⟨m, fun _ => 0, g⟩).mono
      (fun _ h c => ⟨h.1 c _ (mem_uc main_v13 rfl), h.1 c _ (mem_uc main_v9 rfl), h.1 c _ (mem_uc main_v12 rfl),
        (h.1 c _ (mem_uc main_arg0 rfl)).trans (VE_arg0 m c), (h.1 c _ (mem_uc main_arg1 rfl)).trans (VE_arg1 m c)⟩) (run_main m g),
    (θ_run (Cert.ReferenceIdeal.defs (F := Ideal)) (onTc (τ := Cert.ReferenceIdeal.τ) (Cert.ReferenceIdeal.main (F := Ideal))) ⟨m', fun _ => 0, g'⟩).mono
      (fun r h c => by
        obtain ⟨h1, h2, h3, h4⟩ := h c
        rw [(hm c).1, (hm c).2] at h1 h2 h3
        exact ⟨h1.trans (energy m c (hp c)).symm, h2.trans (forces m c (hp c)).symm, h3.trans (analytic m c (hp c)).symm, h4⟩)
      (Reference.run_named m' g')⟩

end Cert.Proof.Result

end
-- ==== Proof.lean ====
/-
  The certificate's claims, put together: the kernel's run and its frames (Proof/Frames.lean), the reference's run
  (Proof/Reference.lean), the two named constants, and the equality of the results (Proof/Result.lean).
-/
module

public import proofs.«01_k».proof.Defs
public import proofs.«01_k».proof.Proof.Frames
public import proofs.«01_k».proof.Proof.Reference
public import proofs.«01_k».proof.Proof.Result

@[expose] public section

noncomputable section

namespace Cert.Proof

open Idealize.ShloMosaic Idealize.SL.Sem

/-- The two constants the idealization names are the extended reals it says. -/
theorem preserves : Cert.preserves_Kernel_KernelIdeal :=
  ⟨IdealRules.named_const.statement Cert.KernelIdeal.κ "third" .f32 0x3EAAAAAB#32 _ rfl,
    IdealRules.named_const.statement Cert.KernelIdeal.κ "e0n" .f32 0xC708FC6E#32 _ rfl⟩

theorem claim : Cert.Claim :=
  ⟨Cert.Kernel.Gen.facts, Cert.KernelIdeal.Gen.facts, Cert.ReferenceIdeal.Gen.facts, Cert.Pre_drawn.Gen.facts,
    Tile.frame_kernel, Tile.frame_ideal, fun m g _ => Tile.frame_ideal m g trivial,
    Reference.frame_reference, fun m g _ => Reference.frame_reference m g trivial, preserves, Result.algebraic⟩

end Cert.Proof

end
